-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 2048, 2, 128]⟩ ⟨4, ![1, 8192, 2, 128]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 2048, 2, 128]⟩ ⟨4, ![1, 8192, 2, 128]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v197)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v197) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x512x1024 : Shape := ⟨3, ![1, 512, 1024]⟩
abbrev S1024x1024 : Shape := ⟨2, ![1024, 1024]⟩
abbrev S1x2048x2x128 : Shape := ⟨4, ![1, 2048, 2, 128]⟩
abbrev S4x256x8x128 : Shape := ⟨4, ![4, 256, 8, 128]⟩
abbrev S4x2x256x8 : Shape := ⟨4, ![4, 2, 256, 8]⟩
abbrev S4 : Shape := ⟨1, ![4]⟩
abbrev S_ : Shape := ⟨0, ![]⟩
abbrev S512x1024 : Shape := ⟨2, ![512, 1024]⟩
abbrev S512x8x128 : Shape := ⟨3, ![512, 8, 128]⟩
abbrev S1x2048x1x128 : Shape := ⟨4, ![1, 2048, 1, 128]⟩
abbrev S2048x128 : Shape := ⟨2, ![2048, 128]⟩
abbrev S512x1x128 : Shape := ⟨3, ![512, 1, 128]⟩
abbrev S512x128 : Shape := ⟨2, ![512, 128]⟩
abbrev S512x2048 : Shape := ⟨2, ![512, 2048]⟩
abbrev S512 : Shape := ⟨1, ![512]⟩
abbrev S512x1 : Shape := ⟨2, ![512, 1]⟩
abbrev S512x8 : Shape := ⟨2, ![512, 8]⟩
abbrev S256x8x128 : Shape := ⟨3, ![256, 8, 128]⟩
abbrev S1x256x8x128 : Shape := ⟨4, ![1, 256, 8, 128]⟩
abbrev S256x8 : Shape := ⟨2, ![256, 8]⟩
abbrev S1x1x256x8 : Shape := ⟨4, ![1, 1, 256, 8]⟩
abbrev S1 : Shape := ⟨1, ![1]⟩
abbrev S1x2x256x8 : Shape := ⟨4, ![1, 2, 256, 8]⟩
abbrev S2x256x8 : Shape := ⟨3, ![2, 256, 8]⟩
abbrev S4x1x256x8 : Shape := ⟨4, ![4, 1, 256, 8]⟩
abbrev S4x256x8 : Shape := ⟨3, ![4, 256, 8]⟩
abbrev S1x256x8 : Shape := ⟨3, ![1, 256, 8]⟩
abbrev S4x256x8x1 : Shape := ⟨4, ![4, 256, 8, 1]⟩
abbrev S256x8x1 : Shape := ⟨3, ![256, 8, 1]⟩
abbrev S256x1024 : Shape := ⟨2, ![256, 1024]⟩
abbrev S1x256x1024 : Shape := ⟨3, ![1, 256, 1024]⟩

abbrev nBuf : Space → Nat
  | .hbm => 6
  | .vmem => 10
  | .smem => 0
  | _ => 0

abbrev bufTy : (tb : Table) → Fin (tcTables nBuf tb) → BufTy
  | .hbm, ⟨0, _⟩ => ⟨S1x512x1024, .f32⟩
  | .hbm, ⟨1, _⟩ => ⟨S1024x1024, .f32⟩
  | .hbm, ⟨2, _⟩ => ⟨S1x2048x2x128, .f32⟩
  | .hbm, ⟨3, _⟩ => ⟨S1x2048x2x128, .f32⟩
  | .hbm, ⟨4, _⟩ => ⟨S1024x1024, .f32⟩
  | .hbm, ⟨5, _⟩ => ⟨S1x512x1024, .f32⟩
  | .local _ .vmem, ⟨0, _⟩ => ⟨S1x512x1024, .f32⟩
  | .local _ .vmem, ⟨1, _⟩ => ⟨S1024x1024, .f32⟩
  | .local _ .vmem, ⟨2, _⟩ => ⟨S1024x1024, .f32⟩
  | .local _ .vmem, ⟨3, _⟩ => ⟨S1x2048x2x128, .f32⟩
  | .local _ .vmem, ⟨4, _⟩ => ⟨S1x2048x2x128, .f32⟩
  | .local _ .vmem, ⟨5, _⟩ => ⟨S1x512x1024, .f32⟩
  | .local _ .vmem, ⟨6, _⟩ => ⟨S4x256x8x128, .f32⟩
  | .local _ .vmem, ⟨7, _⟩ => ⟨S4x256x8x128, .f32⟩
  | .local _ .vmem, ⟨8, _⟩ => ⟨S4x2x256x8, .f32⟩
  | .local _ .vmem, ⟨9, _⟩ => ⟨S4x2x256x8, .f32⟩
  | _, _ => ⟨S1x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_dev3 (d0 : Dev nD) : Nat :=
  let c0_i32_148 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_147 : BitVec 32 := 1#32
  let v201 : BitVec 32 := Scalar.muli v24 c1_i32_147
  let v202 : BitVec 32 := Scalar.addi c0_i32_148 v201
  v202.toNat
def k0_dev4 (d0 : Dev nD) : Nat :=
  let c0_i32_160 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_159 : BitVec 32 := 1#32
  let v211 : BitVec 32 := Scalar.muli v24 c1_i32_159
  let v212 : BitVec 32 := Scalar.addi c0_i32_160 v211
  v212.toNat
def k0_dev5 (d0 : Dev nD) : Nat :=
  let c0_i32_172 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_171 : BitVec 32 := 1#32
  let v221 : BitVec 32 := Scalar.muli v13 c1_i32_171
  let v222 : BitVec 32 := Scalar.addi c0_i32_172 v221
  v222.toNat
def k0_dev6 (d0 : Dev nD) : Nat :=
  let c0_i32_184 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_183 : BitVec 32 := 1#32
  let v231 : BitVec 32 := Scalar.muli v13 c1_i32_183
  let v232 : BitVec 32 := Scalar.addi c0_i32_184 v231
  v232.toNat
def k0_dev7 (d0 : Dev nD) : Nat :=
  let c0_i32_208 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_207 : BitVec 32 := 1#32
  let v249 : BitVec 32 := Scalar.muli v24 c1_i32_207
  let v250 : BitVec 32 := Scalar.addi c0_i32_208 v249
  v250.toNat
def k0_dev8 (d0 : Dev nD) : Nat :=
  let c0_i32_232 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_231 : BitVec 32 := 1#32
  let v267 : BitVec 32 := Scalar.muli v24 c1_i32_231
  let v268 : BitVec 32 := Scalar.addi c0_i32_232 v267
  v268.toNat
def k0_dev9 (d0 : Dev nD) : Nat :=
  let c0_i32_256 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_255 : BitVec 32 := 1#32
  let v285 : BitVec 32 := Scalar.muli v13 c1_i32_255
  let v286 : BitVec 32 := Scalar.addi c0_i32_256 v285
  v286.toNat
def k0_dev10 (d0 : Dev nD) : Nat :=
  let c0_i32_280 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_279 : BitVec 32 := 1#32
  let v303 : BitVec 32 := Scalar.muli v13 c1_i32_279
  let v304 : BitVec 32 := Scalar.addi c0_i32_280 v303
  v304.toNat
def k0_dev11 (d0 : Dev nD) : Nat :=
  let c0_i32_303 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_302 : BitVec 32 := 1#32
  let v321 : BitVec 32 := Scalar.muli v24 c1_i32_302
  let v322 : BitVec 32 := Scalar.addi c0_i32_303 v321
  v322.toNat
def k0_dev12 (d0 : Dev nD) : Nat :=
  let c0_i32_327 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_326 : BitVec 32 := 1#32
  let v339 : BitVec 32 := Scalar.muli v24 c1_i32_326
  let v340 : BitVec 32 := Scalar.addi c0_i32_327 v339
  v340.toNat
def k0_dev13 (d0 : Dev nD) : Nat :=
  let c0_i32_351 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_350 : BitVec 32 := 1#32
  let v357 : BitVec 32 := Scalar.muli v13 c1_i32_350
  let v358 : BitVec 32 := Scalar.addi c0_i32_351 v357
  v358.toNat
def k0_dev14 (d0 : Dev nD) : Nat :=
  let c0_i32_375 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_374 : BitVec 32 := 1#32
  let v375 : BitVec 32 := Scalar.muli v13 c1_i32_374
  let v376 : BitVec 32 := Scalar.addi c0_i32_375 v375
  v376.toNat
abbrev stage0_0 : Fin 1 → Memref sig .tc .vmem S1x512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2048x2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2048x2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1x512x1024 : Shape := ⟨3, ![1, 512, 1024]⟩
abbrev S1024x1024 : Shape := ⟨2, ![1024, 1024]⟩
abbrev S1x8192x2x128 : Shape := ⟨4, ![1, 8192, 2, 128]⟩
abbrev S1x512x8x128 : Shape := ⟨4, ![1, 512, 8, 128]⟩
abbrev S1x8192x2x4x128 : Shape := ⟨5, ![1, 8192, 2, 4, 128]⟩
abbrev S1x8192x8x128 : Shape := ⟨4, ![1, 8192, 8, 128]⟩
abbrev S_ : Shape := ⟨0, ![]⟩
abbrev S1x8x512x1 : Shape := ⟨4, ![1, 8, 512, 1]⟩
abbrev S1x1024x8x128 : Shape := ⟨4, ![1, 1024, 8, 128]⟩
abbrev S1x8x512x1024 : Shape := ⟨4, ![1, 8, 512, 1024]⟩
abbrev S1x8x512 : Shape := ⟨3, ![1, 8, 512]⟩
abbrev S1x512x8x1 : Shape := ⟨4, ![1, 512, 8, 1]⟩
abbrev S1x8x128x512 : Shape := ⟨4, ![1, 8, 128, 512]⟩

abbrev nBuf : Space → Nat
  | .hbm => 230
  | .vmem => 0
  | .smem => 0
  | _ => 0

abbrev hbmTy0_0 (i : Nat) : BufTy := match i % 128 with
  | 0 => ⟨S1x512x1024, .f32⟩
  | 1 => ⟨S1024x1024, .f32⟩
  | 2 => ⟨S1x8192x2x128, .f32⟩
  | 3 => ⟨S1x8192x2x128, .f32⟩
  | 4 => ⟨S1024x1024, .f32⟩
  | 5 => ⟨S1x512x1024, .f32⟩
  | 6 => ⟨S1x512x8x128, .f32⟩
  | 7 => ⟨S1x8192x2x4x128, .f32⟩
  | 8 => ⟨S1x8192x8x128, .f32⟩
  | 9 => ⟨S1x8192x2x4x128, .f32⟩
  | 10 => ⟨S1x8192x8x128, .f32⟩
  | 11 => ⟨S_, .f32⟩
  | 12 => ⟨S1x512x8x128, .f32⟩
  | 13 => ⟨S_, .f32⟩
  | 14 => ⟨S1x8x512x1, .f32⟩
  | 15 => ⟨S_, .f32⟩
  | 16 => ⟨S1x8x512x1, .f32⟩
  | 17 => ⟨S1x1024x8x128, .f32⟩
  | 18 => ⟨S1x1024x8x128, .f32⟩
  | 19 => ⟨S1x8x512x1024, .f32⟩
  | 20 => ⟨S_, .f32⟩
  | 21 => ⟨S1x8x512x1024, .f32⟩
  | 22 => ⟨S1x8x512x1024, .f32⟩
  | 23 => ⟨S_, .f32⟩
  | 24 => ⟨S1x8x512, .f32⟩
  | 25 => ⟨S1x8x512x1, .f32⟩
  | 26 => ⟨S1x8x512x1, .f32⟩
  | 27 => ⟨S1x8x512x1, .f32⟩
  | 28 => ⟨S1x8x512x1, .f32⟩
  | 29 => ⟨S1x8x512x1024, .f32⟩
  | 30 => ⟨S1x8x512x1024, .f32⟩
  | 31 => ⟨S1x8x512x1024, .f32⟩
  | 32 => ⟨S1x8x512x1, .f32⟩
  | 33 => ⟨S_, .f32⟩
  | 34 => ⟨S1x8x512, .f32⟩
  | 35 => ⟨S1x8x512x1, .f32⟩
  | 36 => ⟨S1x8x512x1, .f32⟩
  | 37 => ⟨S1x512x8x1, .f32⟩
  | 38 => ⟨S1x512x8x128, .f32⟩
  | 39 => ⟨S1x512x8x128, .f32⟩
  | 40 => ⟨S1x8x128x512, .f32⟩
  | 41 => ⟨S1x512x8x128, .f32⟩
  | 42 => ⟨S1x512x8x128, .f32⟩
  | 43 => ⟨S1x1024x8x128, .f32⟩
  | 44 => ⟨S1x1024x8x128, .f32⟩
  | 45 => ⟨S1x8x512x1024, .f32⟩
  | 46 => ⟨S_, .f32⟩
  | 47 => ⟨S1x8x512x1024, .f32⟩
  | 48 => ⟨S1x8x512x1024, .f32⟩
  | 49 => ⟨S_, .f32⟩
  | 50 => ⟨S1x8x512, .f32⟩
  | 51 => ⟨S1x8x512x1, .f32⟩
  | 52 => ⟨S1x8x512x1, .f32⟩
  | 53 => ⟨S1x8x512x1, .f32⟩
  | 54 => ⟨S1x8x512x1, .f32⟩
  | 55 => ⟨S1x8x512x1024, .f32⟩
  | 56 => ⟨S1x8x512x1024, .f32⟩
  | 57 => ⟨S1x8x512x1024, .f32⟩
  | 58 => ⟨S1x8x512x1, .f32⟩
  | 59 => ⟨S_, .f32⟩
  | 60 => ⟨S1x8x512, .f32⟩
  | 61 => ⟨S1x8x512x1, .f32⟩
  | 62 => ⟨S1x8x512x1, .f32⟩
  | 63 => ⟨S1x512x8x1, .f32⟩
  | 64 => ⟨S1x512x8x128, .f32⟩
  | 65 => ⟨S1x512x8x128, .f32⟩
  | 66 => ⟨S1x8x128x512, .f32⟩
  | 67 => ⟨S1x512x8x128, .f32⟩
  | 68 => ⟨S1x512x8x128, .f32⟩
  | 69 => ⟨S1x1024x8x128, .f32⟩
  | 70 => ⟨S1x1024x8x128, .f32⟩
  | 71 => ⟨S1x8x512x1024, .f32⟩
  | 72 => ⟨S_, .f32⟩
  | 73 => ⟨S1x8x512x1024, .f32⟩
  | 74 => ⟨S1x8x512x1024, .f32⟩
  | 75 => ⟨S_, .f32⟩
  | 76 => ⟨S1x8x512, .f32⟩
  | 77 => ⟨S1x8x512x1, .f32⟩
  | 78 => ⟨S1x8x512x1, .f32⟩
  | 79 => ⟨S1x8x512x1, .f32⟩
  | 80 => ⟨S1x8x512x1, .f32⟩
  | 81 => ⟨S1x8x512x1024, .f32⟩
  | 82 => ⟨S1x8x512x1024, .f32⟩
  | 83 => ⟨S1x8x512x1024, .f32⟩
  | 84 => ⟨S1x8x512x1, .f32⟩
  | 85 => ⟨S_, .f32⟩
  | 86 => ⟨S1x8x512, .f32⟩
  | 87 => ⟨S1x8x512x1, .f32⟩
  | 88 => ⟨S1x8x512x1, .f32⟩
  | 89 => ⟨S1x512x8x1, .f32⟩
  | 90 => ⟨S1x512x8x128, .f32⟩
  | 91 => ⟨S1x512x8x128, .f32⟩
  | 92 => ⟨S1x8x128x512, .f32⟩
  | 93 => ⟨S1x512x8x128, .f32⟩
  | 94 => ⟨S1x512x8x128, .f32⟩
  | 95 => ⟨S1x1024x8x128, .f32⟩
  | 96 => ⟨S1x1024x8x128, .f32⟩
  | 97 => ⟨S1x8x512x1024, .f32⟩
  | 98 => ⟨S_, .f32⟩
  | 99 => ⟨S1x8x512x1024, .f32⟩
  | 100 => ⟨S1x8x512x1024, .f32⟩
  | 101 => ⟨S_, .f32⟩
  | 102 => ⟨S1x8x512, .f32⟩
  | 103 => ⟨S1x8x512x1, .f32⟩
  | 104 => ⟨S1x8x512x1, .f32⟩
  | 105 => ⟨S1x8x512x1, .f32⟩
  | 106 => ⟨S1x8x512x1, .f32⟩
  | 107 => ⟨S1x8x512x1024, .f32⟩
  | 108 => ⟨S1x8x512x1024, .f32⟩
  | 109 => ⟨S1x8x512x1024, .f32⟩
  | 110 => ⟨S1x8x512x1, .f32⟩
  | 111 => ⟨S_, .f32⟩
  | 112 => ⟨S1x8x512, .f32⟩
  | 113 => ⟨S1x8x512x1, .f32⟩
  | 114 => ⟨S1x8x512x1, .f32⟩
  | 115 => ⟨S1x512x8x1, .f32⟩
  | 116 => ⟨S1x512x8x128, .f32⟩
  | 117 => ⟨S1x512x8x128, .f32⟩
  | 118 => ⟨S1x8x128x512, .f32⟩
  | 119 => ⟨S1x512x8x128, .f32⟩
  | 120 => ⟨S1x512x8x128, .f32⟩
  | 121 => ⟨S1x1024x8x128, .f32⟩
  | 122 => ⟨S1x1024x8x128, .f32⟩
  | 123 => ⟨S1x8x512x1024, .f32⟩
  | 124 => ⟨S_, .f32⟩
  | 125 => ⟨S1x8x512x1024, .f32⟩
  | 126 => ⟨S1x8x512x1024, .f32⟩
  | 127 => ⟨S_, .f32⟩
  | _ => ⟨S1x512x1024, .f32⟩

abbrev hbmTy0_1 (i : Nat) : BufTy := match i % 128 with
  | 0 => ⟨S1x8x512, .f32⟩
  | 1 => ⟨S1x8x512x1, .f32⟩
  | 2 => ⟨S1x8x512x1, .f32⟩
  | 3 => ⟨S1x8x512x1, .f32⟩
  | 4 => ⟨S1x8x512x1, .f32⟩
  | 5 => ⟨S1x8x512x1024, .f32⟩
  | 6 => ⟨S1x8x512x1024, .f32⟩
  | 7 => ⟨S1x8x512x1024, .f32⟩
  | 8 => ⟨S1x8x512x1, .f32⟩
  | 9 => ⟨S_, .f32⟩
  | 10 => ⟨S1x8x512, .f32⟩
  | 11 => ⟨S1x8x512x1, .f32⟩
  | 12 => ⟨S1x8x512x1, .f32⟩
  | 13 => ⟨S1x512x8x1, .f32⟩
  | 14 => ⟨S1x512x8x128, .f32⟩
  | 15 => ⟨S1x512x8x128, .f32⟩
  | 16 => ⟨S1x8x128x512, .f32⟩
  | 17 => ⟨S1x512x8x128, .f32⟩
  | 18 => ⟨S1x512x8x128, .f32⟩
  | 19 => ⟨S1x1024x8x128, .f32⟩
  | 20 => ⟨S1x1024x8x128, .f32⟩
  | 21 => ⟨S1x8x512x1024, .f32⟩
  | 22 => ⟨S_, .f32⟩
  | 23 => ⟨S1x8x512x1024, .f32⟩
  | 24 => ⟨S1x8x512x1024, .f32⟩
  | 25 => ⟨S_, .f32⟩
  | 26 => ⟨S1x8x512, .f32⟩
  | 27 => ⟨S1x8x512x1, .f32⟩
  | 28 => ⟨S1x8x512x1, .f32⟩
  | 29 => ⟨S1x8x512x1, .f32⟩
  | 30 => ⟨S1x8x512x1, .f32⟩
  | 31 => ⟨S1x8x512x1024, .f32⟩
  | 32 => ⟨S1x8x512x1024, .f32⟩
  | 33 => ⟨S1x8x512x1024, .f32⟩
  | 34 => ⟨S1x8x512x1, .f32⟩
  | 35 => ⟨S_, .f32⟩
  | 36 => ⟨S1x8x512, .f32⟩
  | 37 => ⟨S1x8x512x1, .f32⟩
  | 38 => ⟨S1x8x512x1, .f32⟩
  | 39 => ⟨S1x512x8x1, .f32⟩
  | 40 => ⟨S1x512x8x128, .f32⟩
  | 41 => ⟨S1x512x8x128, .f32⟩
  | 42 => ⟨S1x8x128x512, .f32⟩
  | 43 => ⟨S1x512x8x128, .f32⟩
  | 44 => ⟨S1x512x8x128, .f32⟩
  | 45 => ⟨S1x1024x8x128, .f32⟩
  | 46 => ⟨S1x1024x8x128, .f32⟩
  | 47 => ⟨S1x8x512x1024, .f32⟩
  | 48 => ⟨S_, .f32⟩
  | 49 => ⟨S1x8x512x1024, .f32⟩
  | 50 => ⟨S1x8x512x1024, .f32⟩
  | 51 => ⟨S_, .f32⟩
  | 52 => ⟨S1x8x512, .f32⟩
  | 53 => ⟨S1x8x512x1, .f32⟩
  | 54 => ⟨S1x8x512x1, .f32⟩
  | 55 => ⟨S1x8x512x1, .f32⟩
  | 56 => ⟨S1x8x512x1, .f32⟩
  | 57 => ⟨S1x8x512x1024, .f32⟩
  | 58 => ⟨S1x8x512x1024, .f32⟩
  | 59 => ⟨S1x8x512x1024, .f32⟩
  | 60 => ⟨S1x8x512x1, .f32⟩
  | 61 => ⟨S_, .f32⟩
  | 62 => ⟨S1x8x512, .f32⟩
  | 63 => ⟨S1x8x512x1, .f32⟩
  | 64 => ⟨S1x8x512x1, .f32⟩
  | 65 => ⟨S1x512x8x1, .f32⟩
  | 66 => ⟨S1x512x8x128, .f32⟩
  | 67 => ⟨S1x512x8x128, .f32⟩
  | 68 => ⟨S1x8x128x512, .f32⟩
  | 69 => ⟨S1x512x8x128, .f32⟩
  | 70 => ⟨S1x512x8x128, .f32⟩
  | 71 => ⟨S1x1024x8x128, .f32⟩
  | 72 => ⟨S1x1024x8x128, .f32⟩
  | 73 => ⟨S1x8x512x1024, .f32⟩
  | 74 => ⟨S_, .f32⟩
  | 75 => ⟨S1x8x512x1024, .f32⟩
  | 76 => ⟨S1x8x512x1024, .f32⟩
  | 77 => ⟨S_, .f32⟩
  | 78 => ⟨S1x8x512, .f32⟩
  | 79 => ⟨S1x8x512x1, .f32⟩
  | 80 => ⟨S1x8x512x1, .f32⟩
  | 81 => ⟨S1x8x512x1, .f32⟩
  | 82 => ⟨S1x8x512x1, .f32⟩
  | 83 => ⟨S1x8x512x1024, .f32⟩
  | 84 => ⟨S1x8x512x1024, .f32⟩
  | 85 => ⟨S1x8x512x1024, .f32⟩
  | 86 => ⟨S1x8x512x1, .f32⟩
  | 87 => ⟨S_, .f32⟩
  | 88 => ⟨S1x8x512, .f32⟩
  | 89 => ⟨S1x8x512x1, .f32⟩
  | 90 => ⟨S1x8x512x1, .f32⟩
  | 91 => ⟨S1x512x8x1, .f32⟩
  | 92 => ⟨S1x512x8x128, .f32⟩
  | 93 => ⟨S1x512x8x128, .f32⟩
  | 94 => ⟨S1x8x128x512, .f32⟩
  | 95 => ⟨S1x512x8x128, .f32⟩
  | 96 => ⟨S1x512x8x128, .f32⟩
  | 97 => ⟨S1x512x8x1, .f32⟩
  | 98 => ⟨S1x512x8x128, .f32⟩
  | 99 => ⟨S1x512x8x128, .f32⟩
  | 100 => ⟨S1x512x1024, .f32⟩
  | 101 => ⟨S1x512x1024, .f32⟩
  | _ => ⟨S1x512x1024, .f32⟩

abbrev hbmTy (i : Nat) : BufTy := match i / 128 with
  | 0 => hbmTy0_0 i
  | 1 => hbmTy0_1 i
  | _ => ⟨S1x512x1024, .f32⟩

abbrev bufTy : (tb : Table) → Fin (tcTables nBuf tb) → BufTy
  | .hbm, ⟨i, _⟩ => hbmTy i
  | _, _ => ⟨S1x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_7 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_8 : Ref sig .tc := ⟨.hbm, 72, rfl⟩
abbrev main_v58 : Ref sig .tc := ⟨.hbm, 73, rfl⟩
abbrev main_v59 : Ref sig .tc := ⟨.hbm, 74, rfl⟩
abbrev main_cst_9 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_cst_10 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_cst_11 : Ref sig .tc := ⟨.hbm, 98, rfl⟩
abbrev main_v81 : Ref sig .tc := ⟨.hbm, 99, rfl⟩
abbrev main_v82 : Ref sig .tc := ⟨.hbm, 100, rfl⟩
abbrev main_cst_12 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_cst_13 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_cst_14 : Ref sig .tc := ⟨.hbm, 124, rfl⟩
abbrev main_v104 : Ref sig .tc := ⟨.hbm, 125, rfl⟩
abbrev main_v105 : Ref sig .tc := ⟨.hbm, 126, rfl⟩
abbrev main_cst_15 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_cst_16 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_cst_17 : Ref sig .tc := ⟨.hbm, 150, rfl⟩
abbrev main_v127 : Ref sig .tc := ⟨.hbm, 151, rfl⟩
abbrev main_v128 : Ref sig .tc := ⟨.hbm, 152, rfl⟩
abbrev main_cst_18 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_cst_19 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_v145 : Ref sig .tc := ⟨.hbm, 171, rfl⟩
abbrev main_v146 : Ref sig .tc := ⟨.hbm, 172, rfl⟩
abbrev main_v147 : Ref sig .tc := ⟨.hbm, 173, rfl⟩
abbrev main_v148 : Ref sig .tc := ⟨.hbm, 174, rfl⟩
abbrev main_v149 : Ref sig .tc := ⟨.hbm, 175, rfl⟩
abbrev main_cst_20 : Ref sig .tc := ⟨.hbm, 176, rfl⟩
abbrev main_v150 : Ref sig .tc := ⟨.hbm, 177, rfl⟩
abbrev main_v151 : Ref sig .tc := ⟨.hbm, 178, rfl⟩
abbrev main_cst_21 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_v160 : Ref sig .tc := ⟨.hbm, 188, rfl⟩
abbrev main_cst_22 : Ref sig .tc := ⟨.hbm, 189, rfl⟩
abbrev main_v161 : Ref sig .tc := ⟨.hbm, 190, rfl⟩
abbrev main_v162 : Ref sig .tc := ⟨.hbm, 191, rfl⟩
abbrev main_v163 : Ref sig .tc := ⟨.hbm, 192, rfl⟩
abbrev main_v164 : Ref sig .tc := ⟨.hbm, 193, rfl⟩
abbrev main_v165 : Ref sig .tc := ⟨.hbm, 194, rfl⟩
abbrev main_v166 : Ref sig .tc := ⟨.hbm, 195, rfl⟩
abbrev main_v167 : Ref sig .tc := ⟨.hbm, 196, rfl⟩
abbrev main_v168 : Ref sig .tc := ⟨.hbm, 197, rfl⟩
abbrev main_v169 : Ref sig .tc := ⟨.hbm, 198, rfl⟩
abbrev main_v170 : Ref sig .tc := ⟨.hbm, 199, rfl⟩
abbrev main_v171 : Ref sig .tc := ⟨.hbm, 200, rfl⟩
abbrev main_v172 : Ref sig .tc := ⟨.hbm, 201, rfl⟩
abbrev main_cst_23 : Ref sig .tc := ⟨.hbm, 202, rfl⟩
abbrev main_v173 : Ref sig .tc := ⟨.hbm, 203, rfl⟩
abbrev main_v174 : Ref sig .tc := ⟨.hbm, 204, rfl⟩
abbrev main_cst_24 : Ref sig .tc := ⟨.hbm, 205, rfl⟩
abbrev main_v175 : Ref sig .tc := ⟨.hbm, 206, rfl⟩
abbrev main_v176 : Ref sig .tc := ⟨.hbm, 207, rfl⟩
abbrev main_v177 : Ref sig .tc := ⟨.hbm, 208, rfl⟩
abbrev main_v178 : Ref sig .tc := ⟨.hbm, 209, rfl⟩
abbrev main_v179 : Ref sig .tc := ⟨.hbm, 210, rfl⟩
abbrev main_v180 : Ref sig .tc := ⟨.hbm, 211, rfl⟩
abbrev main_v181 : Ref sig .tc := ⟨.hbm, 212, rfl⟩
abbrev main_v182 : Ref sig .tc := ⟨.hbm, 213, rfl⟩
abbrev main_v183 : Ref sig .tc := ⟨.hbm, 214, rfl⟩
abbrev main_cst_25 : Ref sig .tc := ⟨.hbm, 215, rfl⟩
abbrev main_v184 : Ref sig .tc := ⟨.hbm, 216, rfl⟩
abbrev main_v185 : Ref sig .tc := ⟨.hbm, 217, rfl⟩
abbrev main_v186 : Ref sig .tc := ⟨.hbm, 218, rfl⟩
abbrev main_v187 : Ref sig .tc := ⟨.hbm, 219, rfl⟩
abbrev main_v188 : Ref sig .tc := ⟨.hbm, 220, rfl⟩
abbrev main_v189 : Ref sig .tc := ⟨.hbm, 221, rfl⟩
abbrev main_v190 : Ref sig .tc := ⟨.hbm, 222, rfl⟩
abbrev main_v191 : Ref sig .tc := ⟨.hbm, 223, rfl⟩
abbrev main_v192 : Ref sig .tc := ⟨.hbm, 224, rfl⟩
abbrev main_v193 : Ref sig .tc := ⟨.hbm, 225, rfl⟩
abbrev main_v194 : Ref sig .tc := ⟨.hbm, 226, rfl⟩
abbrev main_v195 : Ref sig .tc := ⟨.hbm, 227, rfl⟩
abbrev main_v196 : Ref sig .tc := ⟨.hbm, 228, rfl⟩
abbrev main_v197 : Ref sig .tc := ⟨.hbm, 229, rfl⟩

abbrev nD : Nat := 1
abbrev τ : Topo := Topo.v7x

variable {F : FTy → Type} [FloatOps F]
-- ==== Proof.KernelIdeal.Vectors.lean ====
/-
# What one device computes

The vectors of a run as functions of the vectors loaded: the queries `x @ Wq`, the partial outputs, row maxima and row
sums of the eight heads against the device's own keys and values, the six vectors stored to slot 0, and the two halves of
the result.
-/
module

public import proofs.«01_k».proof.Proof.Gen.KernelIdeal
public import proofs.«01_k».proof.Proof.Gen.KernelIdeal.Skeleton

@[expose] public section

noncomputable section

namespace Cert.KernelIdeal.Run

open Cert.KernelIdeal Cert.KernelIdeal.Gen
open Idealize.ShloMosaic

variable {F : FTy → Type} [FloatOps F]

section Block

variable (x : Vec F S1x512x1024 .f32) (wq : Vec F S1024x1024 .f32) (k0 v0 k1 v1 : Vec F S1x2048x1x128 .f32)

/-- The partial outputs of all the heads, from the keys and values `k0`, `v0` (heads 0 to 3) and `k1`, `v1` (heads 4 to 7). -/
def oAll : FVec F S512x8x128 .f32 :=
  k0_pay43 (k0_pay1 x wq) (k0_pay6 x wq k0 v0) (k0_pay13 (k0_pay7 v0) (k0_pay10 x wq k0)) (k0_pay18 (k0_pay1 x wq) k0 v0)
    (k0_pay23 (k0_pay1 x wq) k0 v0) (k0_pay28 (k0_pay1 x wq) k1 v1) (k0_pay33 (k0_pay1 x wq) k1 v1) (k0_pay34 k1) v1 k1 v1

/-- The row maxima of all the heads. -/
def mAll : FVec F S512x8 .f32 :=
  k0_pay44 (k0_pay1 x wq) (k0_pay3 x wq k0) (k0_pay9 x wq k0) (k0_pay15 (k0_pay1 x wq) k0) (k0_pay20 (k0_pay1 x wq) k0)
    (k0_pay25 (k0_pay1 x wq) k1) (k0_pay30 (k0_pay1 x wq) k1) (k0_pay34 k1) k1

/-- What slot 0 receives: partial outputs, maxima and sums, of the first half of the queries (`false`) and of the second. -/
def oSt (b : Bool) : Vec F S1x256x8x128 .f32 :=
  if b then k0_pay48 (oAll x wq k0 v0 k1 v1) else k0_pay47 (oAll x wq k0 v0 k1 v1)

def mSt (b : Bool) : Vec F S1x1x256x8 .f32 :=
  if b then k0_pay52 (mAll x wq k0 k1) else k0_pay49 (mAll x wq k0 k1)

def lSt (b : Bool) : Vec F S1x1x256x8 .f32 :=
  if b then
    k0_pay53 (k0_pay51 (k0_pay12 (k0_pay10 x wq k0)) (k0_pay17 (k0_pay1 x wq) k0) (k0_pay22 (k0_pay1 x wq) k0)
      (k0_pay27 (k0_pay1 x wq) k1) (k0_pay32 (k0_pay1 x wq) k1) (k0_pay38 (k0_pay1 x wq) (k0_pay34 k1)) (k0_pay42 (k0_pay1 x wq) k1)
      (k0_pay45 (k0_pay5 x wq k0)))
  else
    k0_pay50 (k0_pay12 (k0_pay10 x wq k0)) (k0_pay17 (k0_pay1 x wq) k0) (k0_pay22 (k0_pay1 x wq) k0)
      (k0_pay27 (k0_pay1 x wq) k1) (k0_pay32 (k0_pay1 x wq) k1) (k0_pay38 (k0_pay1 x wq) (k0_pay34 k1)) (k0_pay42 (k0_pay1 x wq) k1)
      (k0_pay45 (k0_pay5 x wq k0))

end Block

/-- The half of the result that a full buffer of partial outputs and one of statistics give. -/
def mergeO (b : Bool) (o4 : Vec F S4x256x8x128 .f32) (s4 : Vec F S4x2x256x8 .f32) (wo : Vec F S1024x1024 .f32) : Vec F S1x256x1024 .f32 :=
  if b then k0_pay58 (k0_pay55 s4) (k0_pay56 s4) (k0_pay57 o4 s4) wo else k0_pay54 o4 s4 wo

end Cert.KernelIdeal.Run

end
-- ==== Proof.KernelIdeal.Ring.lean ====
/-
# The rings: cells, slots, schedule, levels

Four rings run at once on the four devices. The clockwise one carries, slot by slot, the partial attention outputs of
the first half of the queries (`o`) and their row maxima and row sums (`s`) to the right neighbour; the other one those of
the second half to the left neighbour. Slot `k` of a device's buffer ends up holding the block of the device `k` steps back
along the ring, so the final contents of all the four buffers are known from the start: every transfer's payload is stated
at those final contents.

The barrier cell of a device has two duties, one paid by each neighbour with the three slots that it is going to receive
into; each DMA cell in use has the one duty `false`.
-/
module

public import proofs.«01_k».proof.Proof.KernelIdeal.Vectors
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Tactic

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The launch state: any memory, semaphores at zero. -/
def s₀ : MemSt nD τ sig (Elt F) := ⟨m, fun _ => 0, ρ⟩

/-! ## The devices in a circle -/

set_option backward.proofsInPublic true in
def nxt (c : Dev nD) : Dev nD := ⟨(c.val + 1) % 4, Nat.mod_lt _ (by decide)⟩
set_option backward.proofsInPublic true in
def prv (c : Dev nD) : Dev nD := ⟨(c.val + 3) % 4, Nat.mod_lt _ (by decide)⟩
theorem prv_nxt (c : Dev nD) : prv (nxt c) = c := by revert c; decide
theorem nxt_prv (c : Dev nD) : nxt (prv c) = c := by revert c; decide

/-- The device a ring sends to: to the right on the clockwise ring (`false`), to the left on the other. -/
def tgt (b : Bool) (c : Dev nD) : Dev nD := if b then prv c else nxt c
/-- The device a ring receives from. -/
def frm (b : Bool) (c : Dev nD) : Dev nD := if b then nxt c else prv c
theorem frm_tgt (b : Bool) (c : Dev nD) : frm b (tgt b c) = c := by revert b c; decide
theorem tgt_frm (b : Bool) (c : Dev nD) : tgt b (frm b c) = c := by revert b c; decide

set_option backward.proofsInPublic true in
/-- The device `k` steps back along a ring. -/
def back (b : Bool) (c : Dev nD) (k : Fin 4) : Dev nD := if b then ⟨(c.val + k.val) % 4, Nat.mod_lt _ (by decide)⟩ else ⟨(c.val + (4 - k.val)) % 4, Nat.mod_lt _ (by decide)⟩
theorem back_zero (b : Bool) (c : Dev nD) : back b c 0 = c := by revert b c; decide
theorem back_tgt (b : Bool) (c : Dev nD) (k k' : Fin 4) (h : k'.val = k.val + 1) : back b (tgt b c) k' = back b c k := by revert b c k k'; decide
theorem back_surj (b : Bool) (c d : Dev nD) : ∃ k, back b c k = d := by revert b c d; decide
theorem back_inj (b : Bool) (c : Dev nD) : Function.Injective (back b c) := by revert b c; decide

theorem dev1_eq (c : Dev nD) : (⟨k0_dev1 c, k0_dev1_lt c⟩ : Dev nD) = prv c := by revert c; decide +kernel
theorem dev2_eq (c : Dev nD) : (⟨k0_dev2 c, k0_dev2_lt c⟩ : Dev nD) = nxt c := by revert c; decide +kernel
theorem dev3_eq (c : Dev nD) : (⟨k0_dev3 c, k0_dev3_lt c⟩ : Dev nD) = tgt false c := by revert c; decide +kernel
theorem dev4_eq (c : Dev nD) : (⟨k0_dev4 c, k0_dev4_lt c⟩ : Dev nD) = tgt false c := by revert c; decide +kernel
theorem dev5_eq (c : Dev nD) : (⟨k0_dev5 c, k0_dev5_lt c⟩ : Dev nD) = tgt true c := by revert c; decide +kernel
theorem dev6_eq (c : Dev nD) : (⟨k0_dev6 c, k0_dev6_lt c⟩ : Dev nD) = tgt true c := by revert c; decide +kernel
theorem dev7_eq (c : Dev nD) : (⟨k0_dev7 c, k0_dev7_lt c⟩ : Dev nD) = tgt false c := by revert c; decide +kernel
theorem dev8_eq (c : Dev nD) : (⟨k0_dev8 c, k0_dev8_lt c⟩ : Dev nD) = tgt false c := by revert c; decide +kernel
theorem dev9_eq (c : Dev nD) : (⟨k0_dev9 c, k0_dev9_lt c⟩ : Dev nD) = tgt true c := by revert c; decide +kernel
theorem dev10_eq (c : Dev nD) : (⟨k0_dev10 c, k0_dev10_lt c⟩ : Dev nD) = tgt true c := by revert c; decide +kernel
theorem dev11_eq (c : Dev nD) : (⟨k0_dev11 c, k0_dev11_lt c⟩ : Dev nD) = tgt false c := by revert c; decide +kernel
theorem dev12_eq (c : Dev nD) : (⟨k0_dev12 c, k0_dev12_lt c⟩ : Dev nD) = tgt false c := by revert c; decide +kernel
theorem dev13_eq (c : Dev nD) : (⟨k0_dev13 c, k0_dev13_lt c⟩ : Dev nD) = tgt true c := by revert c; decide +kernel
theorem dev14_eq (c : Dev nD) : (⟨k0_dev14 c, k0_dev14_lt c⟩ : Dev nD) = tgt true c := by revert c; decide +kernel

/-! ## The buffers and their slots -/

/-- The two buffers of partial outputs and the two of row statistics. -/
def oM (b : Bool) : Memref sig .tc .vmem S4x256x8x128 .f32 := if b then Memref.whole cc0_scratch1 else Memref.whole cc0_scratch0
def sM (b : Bool) : Memref sig .tc .vmem S4x2x256x8 .f32 := if b then Memref.whole cc0_scratch3 else Memref.whole cc0_scratch2

theorem oInb (k : Fin 4) : ∀ a, (![k.val, 0, 0, 0] : Fin 4 → Nat) a + S1x256x8x128.size a ≤ S4x256x8x128.size a := by
  revert k; decide
theorem sInb (k : Fin 4) : ∀ a, (![k.val, 0, 0, 0] : Fin 4 → Nat) a + S1x2x256x8.size a ≤ S4x2x256x8.size a := by
  revert k; decide

abbrev oRect (k : Fin 4) : Rect S4x256x8x128 := Rect.unit (s := S4x256x8x128) ![k.val, 0, 0, 0] S1x256x8x128.size (oInb k)
abbrev sRect (k : Fin 4) : Rect S4x2x256x8 := Rect.unit (s := S4x2x256x8) ![k.val, 0, 0, 0] S1x2x256x8.size (sInb k)

/-- Slot `k`, as the transfers name it. -/
def oSlot (b : Bool) (k : Fin 4) : Memref sig .tc .vmem S256x8x128 .f32 :=
  ((oM b).slice (oRect k) (fun _ => rfl)).squeeze S256x8x128 squeezes_S1x256x8x128_S256x8x128
def sSlot (b : Bool) (k : Fin 4) : Memref sig .tc .vmem S2x256x8 .f32 :=
  ((sM b).slice (sRect k) (fun _ => rfl)).squeeze S2x256x8 squeezes_S1x2x256x8_S2x256x8

/-! ## The semaphores and the cells -/

set_option backward.proofsInPublic true in
/-- Send and receive semaphore of slot `k` of a ring of partial outputs, of a ring of statistics. -/
def oS (b : Bool) (k : Fin 4) : DmaSem sig := ⟨6 + 8 * b.toNat + k.val, by revert b k; decide⟩
set_option backward.proofsInPublic true in
def oV (b : Bool) (k : Fin 4) : DmaSem sig := ⟨10 + 8 * b.toNat + k.val, by revert b k; decide⟩
set_option backward.proofsInPublic true in
def sS (b : Bool) (k : Fin 4) : DmaSem sig := ⟨22 + 8 * b.toNat + k.val, by revert b k; decide⟩
set_option backward.proofsInPublic true in
def sV (b : Bool) (k : Fin 4) : DmaSem sig := ⟨26 + 8 * b.toNat + k.val, by revert b k; decide⟩

/-- The barrier semaphore. -/
abbrev barS : Sem sig := (SemArray.scalar (sig.barrier 0 rfl) : Sems sig S_).sem

set_option backward.proofsInPublic true in
/-- The thirty-two DMA semaphores of the kernel's own. -/
def osem (k : Fin 32) : SemLoc sig := .dma ⟨6 + k.val, by revert k; decide⟩
/-- All the cells of a device: the DMA ones, and the barrier's last. -/
def csem (k : Fin 33) : SemLoc sig := if h : k.val < 32 then osem ⟨k.val, h⟩ else .reg barS
abbrev kcell (ck : Dev nD × Fin 33) : GSem nD τ sig := ((ck.1 : Thread nD τ), csem ck.2)

/-! ### Reading a DMA semaphore's number -/

/-- Whether a kernel semaphore is a receive one, which way its ring goes, and its slot. -/
def isRecv (n : ℕ) : Bool := ((n - 6) / 4) % 2 == 1
def wayOf (n : ℕ) : Bool := ((n - 6) / 8) % 2 == 1
set_option backward.proofsInPublic true in
def slotOf (n : ℕ) : Fin 4 := ⟨(n + 2) % 4, Nat.mod_lt _ (by decide)⟩
/-- Whether the kernel uses it: sends are from the slots 0, 1, 2, to the slots 1, 2, 3. -/
def used (n : ℕ) : Bool := decide (6 ≤ n) && (if isRecv n then slotOf n != 0 else slotOf n != 3)

/-! ## Contents -/

/-- A device's staging buffers as the body finds them: `x`, `Wq`, `Wo` and its blocks of `K` and `V`. -/
def xstg (c : Dev nD) : (cc0_stg0_0 : Ref sig .tc).ty.Contents (Elt F) :=
  (win0_0.blk (0 : Fin 1)).view.read (Elt F) ((s₀ m ρ).mem ((c : Thread nD τ).loc main_arg0))
def qstg (c : Dev nD) : (cc0_stg1_0 : Ref sig .tc).ty.Contents (Elt F) :=
  (win0_1.blk (0 : Fin 1)).view.read (Elt F) ((s₀ m ρ).mem ((c : Thread nD τ).loc main_arg1))
def wstg (c : Dev nD) : (cc0_stg2_0 : Ref sig .tc).ty.Contents (Elt F) :=
  (win0_2.blk (0 : Fin 1)).view.read (Elt F) ((s₀ m ρ).mem ((c : Thread nD τ).loc main_arg4))
def kstg (c : Dev nD) : (cc0_stg3_0 : Ref sig .tc).ty.Contents (Elt F) :=
  (win0_3.blk (0 : Fin 1)).view.read (Elt F) ((s₀ m ρ).mem ((c : Thread nD τ).loc main_arg2))
def vstg (c : Dev nD) : (cc0_stg4_0 : Ref sig .tc).ty.Contents (Elt F) :=
  (win0_4.blk (0 : Fin 1)).view.read (Elt F) ((s₀ m ρ).mem ((c : Thread nD τ).loc main_arg3))

/-- The vectors loaded from them. -/
def ldX (c : Dev nD) : Vec F S1x512x1024 .f32 :=
  (Memref.whole cc0_stg0_0 : Memref sig .tc .vmem S1x512x1024 .f32).view.readAt (Elt F)
    (Rect.unit (s := S1x512x1024) ![0, 0, 0] S1x512x1024.size inb_S1x512x1024_S1x512x1024_0_0_0).toLoadRect (xstg m ρ c)
def ldQ (c : Dev nD) : Vec F S1024x1024 .f32 :=
  (Memref.whole cc0_stg1_0 : Memref sig .tc .vmem S1024x1024 .f32).view.readAt (Elt F)
    (Rect.unit (s := S1024x1024) ![0, 0] S1024x1024.size inb_S1024x1024_S1024x1024_0_0).toLoadRect (qstg m ρ c)
def ldW (c : Dev nD) : Vec F S1024x1024 .f32 :=
  (Memref.whole cc0_stg2_0 : Memref sig .tc .vmem S1024x1024 .f32).view.readAt (Elt F)
    (Rect.unit (s := S1024x1024) ![0, 0] S1024x1024.size inb_S1024x1024_S1024x1024_0_0).toLoadRect (wstg m ρ c)
def ldK0 (c : Dev nD) : Vec F S1x2048x1x128 .f32 :=
  (Memref.whole cc0_stg3_0 : Memref sig .tc .vmem S1x2048x2x128 .f32).view.readAt (Elt F)
    (Rect.unit (s := S1x2048x2x128) ![0, 0, 0, 0] S1x2048x1x128.size inb_S1x2048x2x128_S1x2048x1x128_0_0_0_0).toLoadRect (kstg m ρ c)
def ldK1 (c : Dev nD) : Vec F S1x2048x1x128 .f32 :=
  (Memref.whole cc0_stg3_0 : Memref sig .tc .vmem S1x2048x2x128 .f32).view.readAt (Elt F)
    (Rect.unit (s := S1x2048x2x128) ![0, 0, 1, 0] S1x2048x1x128.size inb_S1x2048x2x128_S1x2048x1x128_0_0_1_0).toLoadRect (kstg m ρ c)
def ldV0 (c : Dev nD) : Vec F S1x2048x1x128 .f32 :=
  (Memref.whole cc0_stg4_0 : Memref sig .tc .vmem S1x2048x2x128 .f32).view.readAt (Elt F)
    (Rect.unit (s := S1x2048x2x128) ![0, 0, 0, 0] S1x2048x1x128.size inb_S1x2048x2x128_S1x2048x1x128_0_0_0_0).toLoadRect (vstg m ρ c)
def ldV1 (c : Dev nD) : Vec F S1x2048x1x128 .f32 :=
  (Memref.whole cc0_stg4_0 : Memref sig .tc .vmem S1x2048x2x128 .f32).view.readAt (Elt F)
    (Rect.unit (s := S1x2048x2x128) ![0, 0, 1, 0] S1x2048x1x128.size inb_S1x2048x2x128_S1x2048x1x128_0_0_1_0).toLoadRect (vstg m ρ c)

/-- What a device stores to slot 0 of its four buffers. -/
def oOwn (b : Bool) (c : Dev nD) : Vec F S1x256x8x128 .f32 :=
  oSt (ldX m ρ c) (ldQ m ρ c) (ldK0 m ρ c) (ldV0 m ρ c) (ldK1 m ρ c) (ldV1 m ρ c) b
def mOwn (b : Bool) (c : Dev nD) : Vec F S1x1x256x8 .f32 :=
  mSt (ldX m ρ c) (ldQ m ρ c) (ldK0 m ρ c) (ldK1 m ρ c) b
def lOwn (b : Bool) (c : Dev nD) : Vec F S1x1x256x8 .f32 :=
  lSt (ldX m ρ c) (ldQ m ρ c) (ldK0 m ρ c) (ldK1 m ρ c) b

/-- A buffer's index with the slot forgotten. -/
def oIn (i : S4x256x8x128.Idx) : S1x256x8x128.Idx := fun | 0 => (0 : Fin 1) | 1 => i 1 | 2 => i 2 | 3 => i 3
/-- The same with the choice of maximum or sum forgotten too. -/
def sIn (i : S4x2x256x8.Idx) : S1x1x256x8.Idx := fun | 0 => (0 : Fin 1) | 1 => (0 : Fin 1) | 2 => i 2 | 3 => i 3

/-- What the four buffers hold in the end: in slot `k` what the device `k` steps back stored to its slot 0. -/
def oVec (b : Bool) (c : Dev nD) : Vec F S4x256x8x128 .f32 := fun i => oOwn m ρ b (back b c (i 0)) (oIn i)
def sVec (b : Bool) (c : Dev nD) : Vec F S4x2x256x8 .f32 := fun i =>
  if (i 1).val = 0 then mOwn m ρ b (back b c (i 0)) (sIn i) else lOwn m ρ b (back b c (i 0)) (sIn i)

def oFull (b : Bool) (c : Dev nD) : Buf (Elt F) ((oM b).view.loc (c : Thread nD τ)) :=
  (oM b).view.write (Elt F) (m ((oM b).view.loc (c : Thread nD τ))) (oVec m ρ b c) Finset.univ
def sFull (b : Bool) (c : Dev nD) : Buf (Elt F) ((sM b).view.loc (c : Thread nD τ)) :=
  (sM b).view.write (Elt F) (m ((sM b).view.loc (c : Thread nD τ))) (sVec m ρ b c) Finset.univ

/-- The result's staging buffer after the two stores, over what it held before. -/
abbrev fM : Memref sig .tc .vmem S1x512x1024 .f32 := Memref.whole cc0_stg5_0
abbrev fR0 : Rect S1x512x1024 := Rect.unit (s := S1x512x1024) ![0, 0, 0] S1x256x1024.size inb_S1x512x1024_S1x256x1024_0_0_0
abbrev fR1 : Rect S1x512x1024 := Rect.unit (s := S1x512x1024) ![0, 256, 0] S1x256x1024.size inb_S1x512x1024_S1x256x1024_0_256_0
def outW (c : Dev nD) (g : (cc0_stg5_0 : Ref sig .tc).ty.Contents (Elt F)) : (cc0_stg5_0 : Ref sig .tc).ty.Contents (Elt F) :=
  (fM.access fR1 : View sig .tc _ _ _).write (Elt F)
    ((fM.access fR0 : View sig .tc _ _ _).write (Elt F) g (mergeO false (oVec m ρ false c) (sVec m ρ false c) (ldW m ρ c)) Finset.univ)
    (mergeO true (oVec m ρ true c) (sVec m ρ true c) (ldW m ρ c)) Finset.univ
/-- The result itself: nothing of what the buffer held before is left. -/
def outAt (c : Dev nD) : (cc0_stg5_0 : Ref sig .tc).ty.Contents (Elt F) :=
  outW m ρ c (m ((c : Thread nD τ).loc cc0_stg5_0))

theorem outW_eq (c : Dev nD) (g : (cc0_stg5_0 : Ref sig .tc).ty.Contents (Elt F)) : outW m ρ c g = outAt m ρ c := by
  unfold outAt outW
  generalize mergeO false (oVec m ρ false c) (sVec m ρ false c) (ldW m ρ c) = w0
  generalize mergeO true (oVec m ρ true c) (sVec m ρ true c) (ldW m ρ c) = w1
  funext i
  by_cases h1 : i ∈ (fM.access fR1 : View sig .tc _ _ _).setOn Finset.univ
  · obtain ⟨y, -, rfl⟩ := Finset.mem_map.mp h1
    rw [View.write_emb_of_mem _ _ (Finset.mem_univ _), View.write_emb_of_mem _ _ (Finset.mem_univ _)]
  · rw [View.write_of_not_mem _ _ _ h1, View.write_of_not_mem _ _ _ h1]
    have h0 : i ∈ (fM.access fR0 : View sig .tc _ _ _).set := by
      have e0 : (fM.access fR0 : View sig .tc _ _ _).set = fR0.set := View.set_slice_whole _ _
      have e1 : (fM.access fR1 : View sig .tc _ _ _).setOn Finset.univ = fR1.set := View.set_slice_whole _ _
      rw [e1] at h1
      rw [e0]
      rw [Rect.mem_set_unit] at h1 ⊢
      have hi0 : (i (0 : Fin 3)).val < 1 := (i (0 : Fin 3)).isLt
      have hi1 : (i (1 : Fin 3)).val < 512 := (i (1 : Fin 3)).isLt
      have hi2 : (i (2 : Fin 3)).val < 1024 := (i (2 : Fin 3)).isLt
      have key : (i (1 : Fin 3)).val < 256 := by
        by_contra hge
        refine h1 fun a => ?_
        match a with
        | ⟨0, _⟩ => exact ⟨Nat.zero_le _, by show (i (0 : Fin 3)).val < 0 + 1; omega⟩
        | ⟨1, _⟩ => exact ⟨by show 256 ≤ (i (1 : Fin 3)).val; omega, by show (i (1 : Fin 3)).val < 256 + 256; omega⟩
        | ⟨2, _⟩ => exact ⟨Nat.zero_le _, by show (i (2 : Fin 3)).val < 0 + 1024; omega⟩
      intro a
      match a with
      | ⟨0, _⟩ => exact ⟨Nat.zero_le _, by show (i (0 : Fin 3)).val < 0 + 1; omega⟩
      | ⟨1, _⟩ => exact ⟨Nat.zero_le _, by show (i (1 : Fin 3)).val < 0 + 256; omega⟩
      | ⟨2, _⟩ => exact ⟨Nat.zero_le _, by show (i (2 : Fin 3)).val < 0 + 1024; omega⟩
    obtain ⟨y, -, rfl⟩ := Finset.mem_map.mp h0
    rw [View.write_emb_of_mem _ _ (Finset.mem_univ _), View.write_emb_of_mem _ _ (Finset.mem_univ _)]

/-! ### Contents that agree -/

/-- Two contents that read the same through a view agree on its elements. -/
theorem agree_of_read {κ : Kind} {sp : Space} {s : Shape} {e : EltTy} (v : View sig κ sp s e) (f g : v.ty.Contents (Elt F))
    (h : v.read (Elt F) f = v.read (Elt F) g) : ∀ i ∈ v.set, f i = g i := by
  intro i hi
  obtain ⟨y, -, rfl⟩ := Finset.mem_map.mp hi
  have := congrFun h y
  rw [View.read_apply, View.read_apply] at this
  exact (cast_inj _).mp this

theorem read_oFull (b : Bool) (c : Dev nD) : (oM b).view.read (Elt F) (oFull m ρ b c) = oVec m ρ b c := View.read_write_univ _ _
theorem read_sFull (b : Bool) (c : Dev nD) : (sM b).view.read (Elt F) (sFull m ρ b c) = sVec m ρ b c := View.read_write_univ _ _

theorem oRect_idx (k : Fin 4) (z : S1x256x8x128.Idx) (a : Fin 4) :
    (((oRect k).toLoadRect.idx z a).val : ℕ) = (![k.val, 0, 0, 0] : Fin 4 → Nat) a + (z a).val := by
  show (![k.val, 0, 0, 0] : Fin 4 → Nat) a + 1 * (z a).val = _
  rw [Nat.one_mul]
theorem sRect_idx (k : Fin 4) (z : S1x2x256x8.Idx) (a : Fin 4) :
    (((sRect k).toLoadRect.idx z a).val : ℕ) = (![k.val, 0, 0, 0] : Fin 4 → Nat) a + (z a).val := by
  show (![k.val, 0, 0, 0] : Fin 4 → Nat) a + 1 * (z a).val = _
  rw [Nat.one_mul]

/-- Slot `k` of the final contents is the block of the device `k` steps back. -/
theorem oVec_slot (b : Bool) (c : Dev nD) (k : Fin 4) (z : S1x256x8x128.Idx) :
    oVec m ρ b c ((oRect k).toLoadRect.idx z) = oOwn m ρ b (back b c k) z := by
  have h0 : (z (0 : Fin 4)).val = 0 := by have : (z (0 : Fin 4)).val < 1 := (z (0 : Fin 4)).isLt; omega
  have e0 : (oRect k).toLoadRect.idx z (0 : Fin 4) = k := by
    refine Fin.ext ((oRect_idx k z 0).trans ?_); rw [h0]; rfl
  have e1 : oIn ((oRect k).toLoadRect.idx z) = z := by
    funext a
    match a with
    | ⟨0, _⟩ => exact Fin.ext h0.symm
    | ⟨1, _⟩ => exact Fin.ext ((oRect_idx k z 1).trans (Nat.zero_add _))
    | ⟨2, _⟩ => exact Fin.ext ((oRect_idx k z 2).trans (Nat.zero_add _))
    | ⟨3, _⟩ => exact Fin.ext ((oRect_idx k z 3).trans (Nat.zero_add _))
  show oOwn m ρ b (back b c ((oRect k).toLoadRect.idx z (0 : Fin 4))) (oIn ((oRect k).toLoadRect.idx z)) = _
  rw [e0, e1]

/-- The slot's block of statistics. -/
def sBlk (b : Bool) (c : Dev nD) : Vec F S1x2x256x8 .f32 := fun z =>
  if (z 1).val = 0 then mOwn m ρ b c (fun | 0 => (0 : Fin 1) | 1 => (0 : Fin 1) | 2 => z 2 | 3 => z 3)
  else lOwn m ρ b c (fun | 0 => (0 : Fin 1) | 1 => (0 : Fin 1) | 2 => z 2 | 3 => z 3)

theorem sVec_slot (b : Bool) (c : Dev nD) (k : Fin 4) (z : S1x2x256x8.Idx) :
    sVec m ρ b c ((sRect k).toLoadRect.idx z) = sBlk m ρ b (back b c k) z := by
  have h0 : (z (0 : Fin 4)).val = 0 := by have : (z (0 : Fin 4)).val < 1 := (z (0 : Fin 4)).isLt; omega
  have e0 : (sRect k).toLoadRect.idx z (0 : Fin 4) = k := by
    refine Fin.ext ((sRect_idx k z 0).trans ?_); rw [h0]; rfl
  have e1 : ((sRect k).toLoadRect.idx z (1 : Fin 4)).val = (z (1 : Fin 4)).val := (sRect_idx k z 1).trans (Nat.zero_add _)
  have e2 : sIn ((sRect k).toLoadRect.idx z) = (fun | 0 => (0 : Fin 1) | 1 => (0 : Fin 1) | 2 => z 2 | 3 => z 3 : S1x1x256x8.Idx) := by
    funext a
    match a with
    | ⟨0, _⟩ => rfl
    | ⟨1, _⟩ => rfl
    | ⟨2, _⟩ => exact Fin.ext ((sRect_idx k z 2).trans (Nat.zero_add _))
    | ⟨3, _⟩ => exact Fin.ext ((sRect_idx k z 3).trans (Nat.zero_add _))
  show (if ((sRect k).toLoadRect.idx z (1 : Fin 4)).val = 0 then mOwn m ρ b (back b c ((sRect k).toLoadRect.idx z (0 : Fin 4))) (sIn ((sRect k).toLoadRect.idx z))
    else lOwn m ρ b (back b c ((sRect k).toLoadRect.idx z (0 : Fin 4))) (sIn ((sRect k).toLoadRect.idx z))) = _
  rw [e0, e1, e2]; rfl

theorem oSlot_read (b : Bool) (c : Dev nD) (k : Fin 4) :
    (oSlot b k).view.read (Elt F) (oFull m ρ b c) = shapeCast S256x8x128 (oOwn m ρ b (back b c k)) (by decide) := by
  refine (Memref.read_squeeze_slice (oM b) (oRect k) (fun _ => rfl) squeezes_S1x256x8x128_S256x8x128 (show S1x256x8x128.ShapeCasts S256x8x128 by decide) (oFull m ρ b c)).trans ?_
  refine congrArg (fun w => shapeCast S256x8x128 w (show S1x256x8x128.ShapeCasts S256x8x128 by decide)) (funext fun z => ?_)
  rw [View.readAt_apply, read_oFull]; exact oVec_slot m ρ b c k z
theorem sSlot_read (b : Bool) (c : Dev nD) (k : Fin 4) :
    (sSlot b k).view.read (Elt F) (sFull m ρ b c) = shapeCast S2x256x8 (sBlk m ρ b (back b c k)) (by decide) := by
  refine (Memref.read_squeeze_slice (sM b) (sRect k) (fun _ => rfl) squeezes_S1x2x256x8_S2x256x8 (show S1x2x256x8.ShapeCasts S2x256x8 by decide) (sFull m ρ b c)).trans ?_
  refine congrArg (fun w => shapeCast S2x256x8 w (show S1x2x256x8.ShapeCasts S2x256x8 by decide)) (funext fun z => ?_)
  rw [View.readAt_apply, read_sFull]; exact sVec_slot m ρ b c k z

/-- A hop's landed contents are the receiver's final ones on the slot it lands in. -/
theorem o_landed (b : Bool) (c : Dev nD) (k k' : Fin 4) (h : k'.val = k.val + 1) (fd : Buf (Elt F) ((oSlot b k').view.loc (tgt b c : Thread nD τ))) :
    ∀ i ∈ (oSlot b k').view.set, (oSlot b k').view.write (Elt F) fd ((oSlot b k).view.read (Elt F) (oFull m ρ b c)) Finset.univ i = oFull m ρ b (tgt b c) i := by
  refine agree_of_read (oSlot b k').view _ _ ?_
  rw [View.read_write_univ]
  refine (oSlot_read m ρ b c k).trans (Eq.trans ?_ (oSlot_read m ρ b (tgt b c) k').symm)
  rw [back_tgt b c k k' h]
theorem s_landed (b : Bool) (c : Dev nD) (k k' : Fin 4) (h : k'.val = k.val + 1) (fd : Buf (Elt F) ((sSlot b k').view.loc (tgt b c : Thread nD τ))) :
    ∀ i ∈ (sSlot b k').view.set, (sSlot b k').view.write (Elt F) fd ((sSlot b k).view.read (Elt F) (sFull m ρ b c)) Finset.univ i = sFull m ρ b (tgt b c) i := by
  refine agree_of_read (sSlot b k').view _ _ ?_
  rw [View.read_write_univ]
  refine (sSlot_read m ρ b c k).trans (Eq.trans ?_ (sSlot_read m ρ b (tgt b c) k').symm)
  rw [back_tgt b c k k' h]

/-! ### The slots' element sets -/

theorem oSlot_set (b : Bool) (k : Fin 4) : (oSlot b k).view.set = (oRect k).set.map (oM b).view.emb := by
  refine (View.set_reshape (v := ((oM b).slice (oRect k) (fun _ => rfl)).view) _).trans ?_
  exact View.set_slice _ _
theorem sSlot_set (b : Bool) (k : Fin 4) : (sSlot b k).view.set = (sRect k).set.map (sM b).view.emb := by
  refine (View.set_reshape (v := ((sM b).slice (sRect k) (fun _ => rfl)).view) _).trans ?_
  exact View.set_slice _ _

theorem oSlot_disjoint (b : Bool) (k k' : Fin 4) (h : k ≠ k') : Disjoint (oSlot b k).view.set (oSlot b k').view.set := by
  rw [oSlot_set, oSlot_set]
  refine (Finset.disjoint_map (oM b).view.emb).mpr (Rect.unit_disjoint (0 : Fin 4) ?_)
  have : k.val ≠ k'.val := fun e => h (Fin.ext e)
  show k.val + 1 ≤ k'.val ∨ k'.val + 1 ≤ k.val
  omega
theorem sSlot_disjoint (b : Bool) (k k' : Fin 4) (h : k ≠ k') : Disjoint (sSlot b k).view.set (sSlot b k').view.set := by
  rw [sSlot_set, sSlot_set]
  refine (Finset.disjoint_map (sM b).view.emb).mpr (Rect.unit_disjoint (0 : Fin 4) ?_)
  have : k.val ≠ k'.val := fun e => h (Fin.ext e)
  show k.val + 1 ≤ k'.val ∨ k'.val + 1 ≤ k.val
  omega

theorem oSlot_cover (b : Bool) : Finset.univ.biUnion (fun k => (oSlot b k).view.set) = (oM b).view.set := by
  ext i
  simp only [Finset.mem_biUnion, Finset.mem_univ, true_and, oSlot_set]
  constructor
  · rintro ⟨k, hk⟩; obtain ⟨y, -, rfl⟩ := Finset.mem_map.mp hk; exact View.emb_mem_set _ _
  · intro h; obtain ⟨y, -, rfl⟩ := Finset.mem_map.mp h
    refine ⟨(y (0 : Fin 4) : Fin 4), Finset.mem_map_of_mem _ (Rect.mem_set_unit.mpr fun a => ?_)⟩
    match a with
    | ⟨0, _⟩ => exact ⟨le_refl _, Nat.lt_succ_self _⟩
    | ⟨1, _⟩ => exact ⟨Nat.zero_le _, (Nat.zero_add _).symm ▸ (y (1 : Fin 4)).isLt⟩
    | ⟨2, _⟩ => exact ⟨Nat.zero_le _, (Nat.zero_add _).symm ▸ (y (2 : Fin 4)).isLt⟩
    | ⟨3, _⟩ => exact ⟨Nat.zero_le _, (Nat.zero_add _).symm ▸ (y (3 : Fin 4)).isLt⟩
theorem sSlot_cover (b : Bool) : Finset.univ.biUnion (fun k => (sSlot b k).view.set) = (sM b).view.set := by
  ext i
  simp only [Finset.mem_biUnion, Finset.mem_univ, true_and, sSlot_set]
  constructor
  · rintro ⟨k, hk⟩; obtain ⟨y, -, rfl⟩ := Finset.mem_map.mp hk; exact View.emb_mem_set _ _
  · intro h; obtain ⟨y, -, rfl⟩ := Finset.mem_map.mp h
    refine ⟨(y (0 : Fin 4) : Fin 4), Finset.mem_map_of_mem _ (Rect.mem_set_unit.mpr fun a => ?_)⟩
    match a with
    | ⟨0, _⟩ => exact ⟨le_refl _, Nat.lt_succ_self _⟩
    | ⟨1, _⟩ => exact ⟨Nat.zero_le _, (Nat.zero_add _).symm ▸ (y (1 : Fin 4)).isLt⟩
    | ⟨2, _⟩ => exact ⟨Nat.zero_le _, (Nat.zero_add _).symm ▸ (y (2 : Fin 4)).isLt⟩
    | ⟨3, _⟩ => exact ⟨Nat.zero_le _, (Nat.zero_add _).symm ▸ (y (3 : Fin 4)).isLt⟩

/-- The stores to slot 0 leave the final contents there. -/
abbrev sRectM : Rect S4x2x256x8 := Rect.unit (s := S4x2x256x8) ![0, 0, 0, 0] S1x1x256x8.size inb_S4x2x256x8_S1x1x256x8_0_0_0_0
abbrev sRectL : Rect S4x2x256x8 := Rect.unit (s := S4x2x256x8) ![0, 1, 0, 0] S1x1x256x8.size inb_S4x2x256x8_S1x1x256x8_0_1_0_0

theorem o_stored (b : Bool) (c : Dev nD) (f : Buf (Elt F) ((oM b).view.loc (c : Thread nD τ))) :
    ∀ i ∈ (oSlot b 0).view.set, ((oM b).access (oRect 0) : View sig .tc _ _ _).write (Elt F) f (oOwn m ρ b c) Finset.univ i = oFull m ρ b c i := by
  have hs : (oSlot b 0).view.set = ((oM b).access (oRect 0) : View sig .tc _ _ _).set :=
    View.set_reshape (v := ((oM b).slice (oRect 0) (fun _ => rfl)).view) _
  rw [hs]
  refine agree_of_read ((oM b).access (oRect 0) : View sig .tc _ _ _) _ _ ?_
  rw [View.read_write_univ]
  funext z
  have h := oVec_slot m ρ b c 0 z
  rw [back_zero] at h
  rw [← h, ← read_oFull]
  rfl

theorem s_stored (b : Bool) (c : Dev nD) (f : Buf (Elt F) ((sM b).view.loc (c : Thread nD τ))) :
    ∀ i ∈ (sSlot b 0).view.set, ((sM b).access sRectL : View sig .tc _ _ _).write (Elt F)
      (((sM b).access sRectM : View sig .tc _ _ _).write (Elt F) f (mOwn m ρ b c) Finset.univ) (lOwn m ρ b c) Finset.univ i = sFull m ρ b c i := by
  have aM : ∀ i ∈ ((sM b).access sRectM : View sig .tc _ _ _).set,
      ((sM b).access sRectM : View sig .tc _ _ _).write (Elt F) f (mOwn m ρ b c) Finset.univ i = sFull m ρ b c i := by
    refine agree_of_read ((sM b).access sRectM : View sig .tc _ _ _) _ _ ?_
    rw [View.read_write_univ]
    funext z
    have h1 : (z (1 : Fin 4)).val = 0 := by have : (z (1 : Fin 4)).val < 1 := (z (1 : Fin 4)).isLt; omega
    have h0 : (z (0 : Fin 4)).val = 0 := by have : (z (0 : Fin 4)).val < 1 := (z (0 : Fin 4)).isLt; omega
    show _ = (sM b).view.read (Elt F) (sFull m ρ b c) (sRectM.emb z)
    rw [read_sFull]
    have e0 : sRectM.emb z (0 : Fin 4) = (0 : Fin 4) := Fin.ext (by show 0 + 1 * (z (0 : Fin 4)).val = 0; omega)
    have e1 : (sRectM.emb z (1 : Fin 4)).val = 0 := by show 0 + 1 * (z (1 : Fin 4)).val = 0; omega
    have e2 : sIn (sRectM.emb z) = z := by
      funext a
      match a with
      | ⟨0, _⟩ => exact Fin.ext h0.symm
      | ⟨1, _⟩ => exact Fin.ext h1.symm
      | ⟨2, _⟩ => exact Fin.ext (by show 0 + 1 * (z (2 : Fin 4)).val = (z (2 : Fin 4)).val; omega)
      | ⟨3, _⟩ => exact Fin.ext (by show 0 + 1 * (z (3 : Fin 4)).val = (z (3 : Fin 4)).val; omega)
    show _ = (if (sRectM.emb z (1 : Fin 4)).val = 0 then mOwn m ρ b (back b c (sRectM.emb z (0 : Fin 4))) (sIn (sRectM.emb z)) else _)
    rw [if_pos e1, e0, e2, back_zero]
  have aL : ∀ i ∈ ((sM b).access sRectL : View sig .tc _ _ _).set,
      ((sM b).access sRectL : View sig .tc _ _ _).write (Elt F)
        (((sM b).access sRectM : View sig .tc _ _ _).write (Elt F) f (mOwn m ρ b c) Finset.univ) (lOwn m ρ b c) Finset.univ i = sFull m ρ b c i := by
    refine agree_of_read ((sM b).access sRectL : View sig .tc _ _ _) _ _ ?_
    rw [View.read_write_univ]
    funext z
    have h1 : (z (1 : Fin 4)).val = 0 := by have : (z (1 : Fin 4)).val < 1 := (z (1 : Fin 4)).isLt; omega
    have h0 : (z (0 : Fin 4)).val = 0 := by have : (z (0 : Fin 4)).val < 1 := (z (0 : Fin 4)).isLt; omega
    show _ = (sM b).view.read (Elt F) (sFull m ρ b c) (sRectL.emb z)
    rw [read_sFull]
    have e0 : sRectL.emb z (0 : Fin 4) = (0 : Fin 4) := Fin.ext (by show 0 + 1 * (z (0 : Fin 4)).val = 0; omega)
    have e1 : (sRectL.emb z (1 : Fin 4)).val ≠ 0 := by show 1 + 1 * (z (1 : Fin 4)).val ≠ 0; omega
    have e2 : sIn (sRectL.emb z) = z := by
      funext a
      match a with
      | ⟨0, _⟩ => exact Fin.ext h0.symm
      | ⟨1, _⟩ => exact Fin.ext h1.symm
      | ⟨2, _⟩ => exact Fin.ext (by show 0 + 1 * (z (2 : Fin 4)).val = (z (2 : Fin 4)).val; omega)
      | ⟨3, _⟩ => exact Fin.ext (by show 0 + 1 * (z (3 : Fin 4)).val = (z (3 : Fin 4)).val; omega)
    show _ = (if (sRectL.emb z (1 : Fin 4)).val = 0 then _ else lOwn m ρ b (back b c (sRectL.emb z (0 : Fin 4))) (sIn (sRectL.emb z)))
    rw [if_neg e1, e0, e2, back_zero]
  intro i hi
  by_cases h : i ∈ ((sM b).access sRectL : View sig .tc _ _ _).set
  · exact aL i h
  · rw [View.write_of_not_mem _ _ _ h]
    refine aM i ?_
    rw [sSlot_set] at hi
    obtain ⟨y, hy, rfl⟩ := Finset.mem_map.mp hi
    have eM : ((sM b).access sRectM : View sig .tc _ _ _).set = sRectM.set.map (sM b).view.emb := View.set_slice _ _
    have eL : ((sM b).access sRectL : View sig .tc _ _ _).set = sRectL.set.map (sM b).view.emb := View.set_slice _ _
    rw [eL] at h; rw [eM]
    refine Finset.mem_map_of_mem _ (Rect.mem_set_unit.mpr fun a => ?_)
    have hy' := Rect.mem_set_unit.mp hy
    have y0 : (y (0 : Fin 4)).val < 0 + 1 := (hy' 0).2
    have y1 : (y (1 : Fin 4)).val < 2 := (y (1 : Fin 4)).isLt
    have y2 : (y (2 : Fin 4)).val < 256 := (y (2 : Fin 4)).isLt
    have y3 : (y (3 : Fin 4)).val < 8 := (y (3 : Fin 4)).isLt
    have key : (y (1 : Fin 4)).val < 1 := by
      by_contra hge
      refine h (Finset.mem_map_of_mem _ (Rect.mem_set_unit.mpr fun a => ?_))
      match a with
      | ⟨0, _⟩ => exact ⟨Nat.zero_le _, y0⟩
      | ⟨1, _⟩ => exact ⟨by show 1 ≤ (y (1 : Fin 4)).val; omega, by show (y (1 : Fin 4)).val < 1 + 1; omega⟩
      | ⟨2, _⟩ => exact ⟨Nat.zero_le _, by show (y (2 : Fin 4)).val < 0 + 256; omega⟩
      | ⟨3, _⟩ => exact ⟨Nat.zero_le _, by show (y (3 : Fin 4)).val < 0 + 8; omega⟩
    match a with
    | ⟨0, _⟩ => exact ⟨Nat.zero_le _, y0⟩
    | ⟨1, _⟩ => exact ⟨Nat.zero_le _, by show (y (1 : Fin 4)).val < 0 + 1; omega⟩
    | ⟨2, _⟩ => exact ⟨Nat.zero_le _, by show (y (2 : Fin 4)).val < 0 + 256; omega⟩
    | ⟨3, _⟩ => exact ⟨Nat.zero_le _, by show (y (3 : Fin 4)).val < 0 + 8; omega⟩

end Cert.KernelIdeal.Run

end
-- ==== Proof.KernelIdeal.Sched.lean ====
/-
# The schedule of the rings

The cells' duties and payloads at the slots' final contents, what each device owes at launch, and the levels that let it
wait.
-/
module

public import proofs.«01_k».proof.Proof.KernelIdeal.Ring

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Points-to of a slot -/

/-- A slot's elements, as elements of its buffer. -/
def oSet (b : Bool) (k : Fin 4) : Finset (oM b).view.ty.Idx := (oSlot b k).view.set
def sSet (b : Bool) (k : Fin 4) : Finset (sM b).view.ty.Idx := (sSlot b k).view.set

def oPts (b : Bool) (k : Fin 4) (q : PosShare TreeShare) (c : Dev nD) (f : Buf (Elt F) ((oM b).view.loc (c : Thread nD τ))) : sProp 𝕄 :=
  (oM b).view.loc (c : Thread nD τ) ↦[oSet b k]{q} f
def sPts (b : Bool) (k : Fin 4) (q : PosShare TreeShare) (c : Dev nD) (f : Buf (Elt F) ((sM b).view.loc (c : Thread nD τ))) : sProp 𝕄 :=
  (sM b).view.loc (c : Thread nD τ) ↦[sSet b k]{q} f

omit [FloatOps F] in
instance oPts_storable (b k q) (c : Dev nD) (f) : BI.Storable (upEmb : UEmb _ 𝕄) (oPts (F := F) b k q c f) := by unfold oPts; infer_instance
omit [FloatOps F] in
instance sPts_storable (b k q) (c : Dev nD) (f) : BI.Storable (upEmb : UEmb _ 𝕄) (sPts (F := F) b k q c f) := by unfold sPts; infer_instance

/-- A slot at some contents or other: what a device lends its neighbour to receive into. -/
def oAny (b : Bool) (k : Fin 4) (c : Dev nD) : sProp 𝕄 := iprop(∃ f, oPts b k fullShare c f)
def sAny (b : Bool) (k : Fin 4) (c : Dev nD) : sProp 𝕄 := iprop(∃ f, sPts b k fullShare c f)

omit [FloatOps F] in
instance oAny_storable (b k) (c : Dev nD) : BI.Storable (upEmb : UEmb _ 𝕄) (oAny (F := F) b k c) := by unfold oAny; infer_instance
omit [FloatOps F] in
instance sAny_storable (b k) (c : Dev nD) : BI.Storable (upEmb : UEmb _ 𝕄) (sAny (F := F) b k c) := by unfold sAny; infer_instance

/-- The three slots of each of a ring's two buffers that are received into. -/
def lent (b : Bool) (c : Dev nD) : sProp 𝕄 :=
  iprop(oAny b 1 c ∗ oAny b 2 c ∗ oAny b 3 c ∗ sAny b 1 c ∗ sAny b 2 c ∗ sAny b 3 c)

omit [FloatOps F] in
instance lent_storable (b) (c : Dev nD) : BI.Storable (upEmb : UEmb _ 𝕄) (lent (F := F) b c) := by unfold lent; infer_instance

/-! ## The schedule -/

/-- The credit of a transfer of partial outputs, and of one of statistics. -/
abbrev oN : ℕ := (oSlot false 1).view.dmaCredit
abbrev sN : ℕ := (sSlot false 1).view.dmaCredit
theorem oN_pos : 0 < oN := View.dmaCredit_pos _ (by decide)
theorem sN_pos : 0 < sN := View.dmaCredit_pos _ (by decide)

/-- What a semaphore is credited with at a time. -/
def amt : SemLoc sig → ℕ
  | .reg _ => 1
  | .dma q => if q.val < 22 then oN else sN

theorem amt_pos (s : SemLoc sig) : 0 < amt s := by
  cases s with
  | reg _ => exact Nat.one_pos
  | dma q => show 0 < (if q.val < 22 then oN else sN); split; exacts [oN_pos, sN_pos]

/-- What the credit of a DMA semaphore brings: to a receive semaphore the slot filled, to a send semaphore the half share
    of the slot that was read. -/
def dmaPay (c : Dev nD) (n : ℕ) : sProp 𝕄 :=
  if n < 22 then oPts (wayOf n) (slotOf n) (if isRecv n then fullShare else fullShare.right) c (oFull m ρ (wayOf n) c)
  else sPts (wayOf n) (slotOf n) (if isRecv n then fullShare else fullShare.right) c (sFull m ρ (wayOf n) c)

instance dmaPay_storable (c : Dev nD) (n) : BI.Storable (upEmb : UEmb _ 𝕄) (dmaPay (F := F) m ρ c n) := by
  unfold dmaPay; split; exacts [oPts_storable _ _ _ _ _, sPts_storable _ _ _ _ _]

/-- The duties of a semaphore, all in round 0. -/
def semDuties : SemLoc sig → Finset Bool
  | .reg s => if s = barS then Finset.univ else ∅
  | .dma q => if used q.val then {false} else ∅

def semPay (c : Dev nD) (d : Bool) : SemLoc sig → sProp 𝕄
  | .reg _ => lent (!d) (frm d c)
  | .dma q => dmaPay m ρ c q.val

instance semPay_storable (c : Dev nD) (d s) : BI.Storable (upEmb : UEmb _ 𝕄) (semPay (F := F) m ρ c d s) := by
  cases s <;> (unfold semPay; infer_instance)

def ringRd : Rounds.Schedule (GSem nD τ sig) Bool 𝕄 where
  duties g r := if r = 0 ∧ g.1.2 = .tc then semDuties g.2 else ∅
  unitless _ := False
  amount g _ _ := amt g.2
  payload g _ d := semPay m ρ g.1.1 d g.2
  amount_pos g _ _ _ := amt_pos g.2

instance ringRd_payload_storable (g : GSem nD τ sig) (r : ℕ) (d : Bool) :
    BI.Storable (upEmb : UEmb _ 𝕄) ((ringRd (F := F) m ρ).payload g r d) := semPay_storable m ρ _ _ _

theorem duties_zero (c : Dev nD) (s : SemLoc sig) : (ringRd (F := F) m ρ).duties ((c : Thread nD τ), s) 0 = semDuties s := by
  show (if (0 : ℕ) = 0 ∧ (c : Thread nD τ).2 = .tc then semDuties s else ∅) = _
  exact if_pos ⟨rfl, rfl⟩
theorem duties_later (g : GSem nD τ sig) : ∀ r, 1 ≤ r → (ringRd (F := F) m ρ).duties g r = ∅ :=
  fun r hr => if_neg fun h => by have := h.1; omega
theorem duties_unused (c : Dev nD) (q : DmaSem sig) (h : used q.val = false) : ∀ r, 0 ≤ r → (ringRd (F := F) m ρ).duties ((c : Thread nD τ), .dma q) r = ∅ := by
  intro r _
  show (if _ then semDuties (.dma q) else ∅) = _
  have : semDuties (.dma q) = ∅ := by show (if used q.val then {false} else ∅) = _; rw [h]; rfl
  rw [this]; split <;> rfl

theorem duties_dma (c : Dev nD) (q : DmaSem sig) (h : used q.val = true) : (ringRd (F := F) m ρ).duties ((c : Thread nD τ), .dma q) 0 = {false} :=
  (duties_zero m ρ c _).trans (by show (if used q.val then {false} else ∅) = _; exact if_pos h)
theorem duties_bar (c : Dev nD) : (ringRd (F := F) m ρ).duties ((c : Thread nD τ), .reg barS) 0 = Finset.univ :=
  (duties_zero m ρ c _).trans (by show (if barS = barS then Finset.univ else ∅) = _; exact if_pos rfl)

theorem expect_dma (c : Dev nD) (q : DmaSem sig) (h : used q.val = true) : (ringRd (F := F) m ρ).expect ((c : Thread nD τ), .dma q) 0 = amt (.dma q) := by
  unfold Schedule.expect Schedule.amountOf; rw [duties_dma m ρ c q h, Finset.sum_singleton]; rfl
theorem expect_bar (c : Dev nD) : (ringRd (F := F) m ρ).expect ((c : Thread nD τ), .reg barS) 0 = 2 := by
  unfold Schedule.expect Schedule.amountOf
  rw [duties_bar, show (Finset.univ : Finset Bool).sum ((ringRd (F := F) m ρ).amount ((c : Thread nD τ), .reg barS) 0)
      = (Finset.univ : Finset Bool).sum fun _ => 1 from Finset.sum_congr rfl fun _ _ => rfl]
  rfl

theorem rest_dma (c : Dev nD) (q : DmaSem sig) (h : used q.val = true) :
    bigSep ((ringRd (F := F) m ρ).duties ((c : Thread nD τ), .dma q) 0 \ ∅) (fun d => (ringRd (F := F) m ρ).payload ((c : Thread nD τ), .dma q) 0 d)
      = dmaPay m ρ c q.val := by
  rw [Finset.sdiff_empty, duties_dma m ρ c q h, bigSep_singleton]; rfl
theorem rest_bar (c : Dev nD) :
    bigSep ((ringRd (F := F) m ρ).duties ((c : Thread nD τ), .reg barS) 0 \ ∅) (fun d => (ringRd (F := F) m ρ).payload ((c : Thread nD τ), .reg barS) 0 d)
      = iprop(lent true (prv c) ∗ lent false (nxt c)) := by
  rw [Finset.sdiff_empty, duties_bar, bigSep_univ_eq_bigSepL [false, true] (by decide) (by decide), bigSepL_cons_cons, bigSepL_singleton]
  rfl

/-! ### The four kinds of semaphore in use -/

theorem used_oS (b : Bool) (k : Fin 4) (h : k ≠ 3) : used (oS b k).val = true := by revert b k; decide
theorem used_oV (b : Bool) (k : Fin 4) (h : k ≠ 0) : used (oV b k).val = true := by revert b k; decide
theorem used_sS (b : Bool) (k : Fin 4) (h : k ≠ 3) : used (sS b k).val = true := by revert b k; decide
theorem used_sV (b : Bool) (k : Fin 4) (h : k ≠ 0) : used (sV b k).val = true := by revert b k; decide

theorem amt_oS (b : Bool) (k : Fin 4) : amt (.dma (oS b k)) = oN := if_pos (by revert b k; decide)
theorem amt_oV (b : Bool) (k : Fin 4) : amt (.dma (oV b k)) = oN := if_pos (by revert b k; decide)
theorem amt_sS (b : Bool) (k : Fin 4) : amt (.dma (sS b k)) = sN := if_neg (by revert b k; decide)
theorem amt_sV (b : Bool) (k : Fin 4) : amt (.dma (sV b k)) = sN := if_neg (by revert b k; decide)

theorem num_oS (b : Bool) (k : Fin 4) : (oS b k).val < 22 ∧ wayOf (oS b k).val = b ∧ slotOf (oS b k).val = k ∧ isRecv (oS b k).val = false := by revert b k; decide
theorem num_oV (b : Bool) (k : Fin 4) : (oV b k).val < 22 ∧ wayOf (oV b k).val = b ∧ slotOf (oV b k).val = k ∧ isRecv (oV b k).val = true := by revert b k; decide
theorem num_sS (b : Bool) (k : Fin 4) : ¬ (sS b k).val < 22 ∧ wayOf (sS b k).val = b ∧ slotOf (sS b k).val = k ∧ isRecv (sS b k).val = false := by revert b k; decide
theorem num_sV (b : Bool) (k : Fin 4) : ¬ (sV b k).val < 22 ∧ wayOf (sV b k).val = b ∧ slotOf (sV b k).val = k ∧ isRecv (sV b k).val = true := by revert b k; decide

theorem pay_oS (c : Dev nD) (b : Bool) (k : Fin 4) : dmaPay m ρ c (oS b k).val = oPts b k fullShare.right c (oFull m ρ b c) := by
  obtain ⟨h1, h2, h3, h4⟩ := num_oS b k
  unfold dmaPay; rw [if_pos h1, h2, h3, h4]; rfl
theorem pay_oV (c : Dev nD) (b : Bool) (k : Fin 4) : dmaPay m ρ c (oV b k).val = oPts b k fullShare c (oFull m ρ b c) := by
  obtain ⟨h1, h2, h3, h4⟩ := num_oV b k
  unfold dmaPay; rw [if_pos h1, h2, h3, h4]; rfl
theorem pay_sS (c : Dev nD) (b : Bool) (k : Fin 4) : dmaPay m ρ c (sS b k).val = sPts b k fullShare.right c (sFull m ρ b c) := by
  obtain ⟨h1, h2, h3, h4⟩ := num_sS b k
  unfold dmaPay; rw [if_neg h1, h2, h3, h4]; rfl
theorem pay_sV (c : Dev nD) (b : Bool) (k : Fin 4) : dmaPay m ρ c (sV b k).val = sPts b k fullShare c (sFull m ρ b c) := by
  obtain ⟨h1, h2, h3, h4⟩ := num_sV b k
  unfold dmaPay; rw [if_neg h1, h2, h3, h4]; rfl

theorem oCredit (b : Bool) (k : Fin 4) : (oSlot b k).view.dmaCredit = oN := by cases b <;> rfl
theorem sCredit (b : Bool) (k : Fin 4) : (sSlot b k).view.dmaCredit = sN := by cases b <;> rfl

/-! ## What each core owes, and the levels -/

/-- What a device pays, in program order: to which neighbour (`true`: the left one), on which semaphore. -/
def steps : List (Bool × SemLoc sig) :=
  [(true, .reg barS), (false, .reg barS),
   (false, .dma (oV false 1)), (false, .dma (sV false 1)), (true, .dma (oV true 1)), (true, .dma (sV true 1)),
   (false, .dma (oV false 2)), (false, .dma (sV false 2)), (true, .dma (oV true 2)), (true, .dma (sV true 2)),
   (false, .dma (oV false 3)), (false, .dma (sV false 3)), (true, .dma (oV true 3)), (true, .dma (sV true 3))]

def ledger (c : Dev nD) : List (Bool × SemLoc sig) → CellTallies nD τ sig Unit
  | [] => 0
  | p :: l => ledger c l + tallyAt ((tgt p.1 c : Thread nD τ), p.2) () (amt p.2)

theorem ledger_pos {c : Dev nD} {l : List (Bool × SemLoc sig)} {g : GSem nD τ sig} {u : Unit} (h : 0 < ledger c l g u) :
    ∃ p ∈ l, g = ((tgt p.1 c : Thread nD τ), p.2) := by
  induction l with
  | nil => exact absurd h (Nat.lt_irrefl 0)
  | cons p l ih =>
    by_cases hp : g = ((tgt p.1 c : Thread nD τ), p.2)
    · exact ⟨p, List.mem_cons_self, hp⟩
    · obtain ⟨p', hp', e⟩ := ih (by
        unfold ledger at h
        rw [Pi.add_apply, Finsupp.add_apply, tallyAt_apply, if_neg (fun h' => hp h'.1), Nat.add_zero] at h
        exact h)
      exact ⟨p', List.mem_cons_of_mem _ hp', e⟩

def L (g : GSem nD τ sig) : Finset Unit := if g.1.2 = .tc then {()} else ∅
/-- Levels: the barrier 1, the receive semaphore of slot `k` at `k + 1`, all others 0. -/
def lvS : SemLoc sig → ℕ
  | .reg _ => 1
  | .dma q => if used q.val && isRecv q.val then (slotOf q.val).val + 1 else 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

omit [FloatOps F] in
/-- A device may wait on a semaphore below everything it still owes. -/
theorem mayWait (c : Dev nD) (sm : SemLoc sig) (l : List (Bool × SemLoc sig)) (n : ℕ) (hn : lvS sm = n) (h : ∀ p ∈ l, n < lvS p.2) :
    (levAts L lv : sProp 𝕄) ⊢ MayWait (c : Thread nD τ) sm () (ledger c l) :=
  MayOwe.of_cut (L := L) (lev := lv) n (fun p hp => by rw [Finset.mem_singleton.mp hp, L_tc]; exact Finset.mem_singleton_self _)
    (fun g u hg => by obtain ⟨p, -, rfl⟩ := ledger_pos hg; exact Finset.mem_singleton_self _)
    (fun p hp => by rw [Finset.mem_singleton.mp hp]; exact hn.le)
    (fun g u hg => by obtain ⟨p, hp, rfl⟩ := ledger_pos hg; exact h p hp)

end Cert.KernelIdeal.Run

end
-- ==== Proof.KernelIdeal.Steps.lean ====
/-
# The steps of the rings

A hop, and a wait for one, as rules over the bundles a device holds between them.
-/
module

public import proofs.«01_k».proof.Proof.KernelIdeal.Sched

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

variable (m : (ℓ : Loc nD τ sig) → Buf (Elt F) ℓ) (ρ : Dev nD → PrngReg)

/-! ## The cells' invariants -/

/-- The cell number of a DMA semaphore of the kernel's own. -/
def dIx (q : DmaSem sig) : Fin 33 := ⟨q.val - 6, by have : q.val < 38 := q.isLt; omega⟩
theorem csem_dIx (q : DmaSem sig) (h : used q.val = true) : csem (dIx q) = .dma q := by
  have h6 : 6 ≤ q.val := by
    unfold used at h; exact of_decide_eq_true (Bool.and_eq_true_iff.mp h).1
  have hq : q.val < 38 := q.isLt
  have hlt : (dIx q).val < 32 := by show q.val - 6 < 32; omega
  unfold csem
  rw [dif_pos hlt]
  exact congrArg SemLoc.dma (Fin.ext (by show 6 + (q.val - 6) = q.val; omega))

def records (K : Dev nD × Fin 33 → ℕ) : sProp 𝕄 :=
  iprop((bigSep Finset.univ fun ck : Dev nD × Fin 33 => cellInv ER (ringRd m ρ) (K ck) (kcell ck))
    ∗ bigSep Finset.univ fun ck : Dev nD × Fin 33 => reached ER (kcell ck) 0)
instance records_persistent (K : Dev nD × Fin 33 → ℕ) : BI.Persistent (records m ρ K) := by unfold records; infer_instance

theorem inv_at (K : Dev nD × Fin 33 → ℕ) (ck : Dev nD × Fin 33) : records m ρ K ⊢ cellInv ER (ringRd m ρ) (K ck) (kcell ck) := by
  unfold records
  iintro ⟨#HI, -⟩
  have h : (bigSep Finset.univ fun ck : Dev nD × Fin 33 => (cellInv ER (ringRd m ρ) (K ck) (kcell ck) : sProp 𝕄)) ⊢ cellInv ER (ringRd m ρ) (K ck) (kcell ck) :=
    bigSep_elim (Finset.mem_univ ck)
  iapply h; iexact HI
theorem reached_at (K : Dev nD × Fin 33 → ℕ) (ck : Dev nD × Fin 33) : records m ρ K ⊢ reached ER (kcell ck) 0 := by
  unfold records
  iintro ⟨-, #HR⟩
  have h : (bigSep Finset.univ fun ck : Dev nD × Fin 33 => (reached ER (kcell ck) 0 : sProp 𝕄)) ⊢ reached ER (kcell ck) 0 :=
    bigSep_elim (Finset.mem_univ ck)
  iapply h; iexact HR
theorem inv_dma (K : Dev nD × Fin 33 → ℕ) (c : Dev nD) (q : DmaSem sig) (h : used q.val = true) :
    records m ρ K ⊢ cellInv ER (ringRd m ρ) (K (c, dIx q)) ((c : Thread nD τ), .dma q) := by
  have := inv_at m ρ K (c, dIx q)
  rwa [show kcell (c, dIx q) = ((c : Thread nD τ), SemLoc.dma q) from congrArg _ (csem_dIx q h)] at this
theorem reached_dma (K : Dev nD × Fin 33 → ℕ) (c : Dev nD) (q : DmaSem sig) (h : used q.val = true) :
    records m ρ K ⊢ reached ER ((c : Thread nD τ), .dma q) 0 := by
  have := reached_at m ρ K (c, dIx q)
  rwa [show kcell (c, dIx q) = ((c : Thread nD τ), SemLoc.dma q) from congrArg _ (csem_dIx q h)] at this

/-! ## What a device holds between its steps -/

/-- A DMA semaphore waited for later: its credit, at its first round. -/
def due (c : Dev nD) (q : DmaSem sig) : sProp 𝕄 :=
  iprop(cred (tallyAt ((c : Thread nD τ), SemLoc.dma q) () (amt (.dma q))) ∗ atPos ER ((c : Thread nD τ), .dma q) 0 ∅ 0)
/-- One waited for. -/
def done (c : Dev nD) (q : DmaSem sig) : sProp 𝕄 := atPos ER ((c : Thread nD τ), .dma q) 1 ∅ 0
/-- What a hop spends besides the slots: its two duties' tokens; and its send semaphore, at its first round. -/
def fare (c n : Dev nD) (qS qV : DmaSem sig) : sProp 𝕄 :=
  iprop(dutyTok ER ((c : Thread nD τ), .dma qS) 0 false ∗ dutyTok ER ((n : Thread nD τ), .dma qV) 0 false ∗ atPos ER ((c : Thread nD τ), .dma qS) 0 ∅ 0)
/-- What a device owes, whatever it has waited for. -/
def ow (c : Dev nD) (l : List (Bool × SemLoc sig)) : sProp 𝕄 := iprop(∃ W, owes (c : Thread nD τ) (ledger c l) W)

/-- A slot held in full is two halves. -/
theorem oPts_halves (b : Bool) (k : Fin 4) (c : Dev nD) (f) : oPts (F := F) b k fullShare c f ⊣⊢ iprop(oPts b k fullShare.left c f ∗ oPts b k fullShare.right c f) :=
  pointsTo_share (PosShare.mem_left_op_right fullShare)
theorem sPts_halves (b : Bool) (k : Fin 4) (c : Dev nD) (f) : sPts (F := F) b k fullShare c f ⊣⊢ iprop(sPts b k fullShare.left c f ∗ sPts b k fullShare.right c f) :=
  pointsTo_share (PosShare.mem_left_op_right fullShare)

/-! ## The rules -/

section Rules

variable (K : Dev nD × Fin 33 → ℕ)

/-- A hop of partial outputs: slot `k`, held in full, to slot `k'` of the next device; half of the slot stays. -/
theorem wp_hop_o (c n : Dev nD) (b : Bool) (k k' : Fin 4) (hk : k'.val = k.val + 1) (hn : n = tgt b c) (l' l : List (Bool × SemLoc sig))
    (hl : l' = (b, .dma (oV b k')) :: l)
    {hsc : (oSlot b k' : Memref sig (Dev.tc n : Thread nD τ).2.kind .vmem S256x8x128 .f32).view.ref.isScScratch = false}
    {hsrc : (oSlot b k).view.WordExact} {hdst : (oSlot b k').view.WordExact}
    {hsem : DmaTarget.Typed .vmem (.dma (oV b k')) (.remote (Dev.tc n : Thread nD τ) (oSlot b k' : Memref sig .tc .vmem S256x8x128 .f32) (.dma (oS b k)) hsc)}
    {α : Type} {Q : α → sProp 𝕄} {kt : PUnit → Prog (TpuEff nD τ sig (Elt F) Λ₀ .tc) α} :
    iprop(records m ρ K ∗ oPts b k fullShare c (oFull m ρ b c) ∗ oAny b k' (tgt b c) ∗ fare c (tgt b c) (oS b k) (oV b k')
        ∗ ow c l')
      ⊢ iprop(((oPts b k fullShare.left c (oFull m ρ b c) ∗ due c (oS b k) ∗ ow c l) -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (oSlot b k) (.remote (Dev.tc n : Thread nD τ) (oSlot b k') (.dma (oS b k)) hsc) (.dma (oV b k')) hsrc hdst hsem) kt) Q) := by
  subst hn hl
  have uS : used (oS b k).val = true := used_oS b k (by intro e; subst e; have := k'.isLt; omega)
  have uV : used (oV b k').val = true := used_oV b k' (by intro e; subst e; exact absurd hk (by simp))
  unfold oAny fare ow due
  iintro ⟨#HR, Hp, ⟨%fd, Hd⟩, ⟨Ht1, Ht2, Hat⟩, ⟨%W, HO⟩⟩ Hk
  ihave Hp2 := (oPts_halves b k c (oFull m ρ b c)).1 $$ Hp
  icases Hp2 with ⟨HpL, HpR⟩
  ihave HpR' := (Entails.of_eq (show oPts b k fullShare.right c (oFull m ρ b c) = ((oSlot b k).view.loc (c : Thread nD τ) ↦[(oSlot b k).view.set]{fullShare.right} oFull m ρ b c : sProp 𝕄) from rfl)) $$ HpR
  ihave Hd' := (Entails.of_eq (show oPts b k' fullShare (tgt b c) fd = ((oSlot b k').view.loc (tgt b c : Thread nD τ) ↦[(oSlot b k').view.set]{fullShare} fd : sProp 𝕄) from rfl)) $$ Hd
  iapply (Rounds.wp_send_pointsTo 𝒱₀ ER (ringRd m ρ) (c : Thread nD τ) none (κ₁ := K (c, dIx (oS b k))) (κ₂ := K (tgt b c, dIx (oV b k')))
    (c' := (tgt b c : Thread nD τ)) (src := oSlot b k) (dst := oSlot b k') (sS := .dma (oS b k)) (sem := .dma (oV b k')) (q := fullShare.right) (fs := oFull m ρ b c)
    (r₁ := 0) (r₂ := 0) (d₁ := false) (d₂ := false) (fd := fd)
    (by rw [duties_dma m ρ c _ uS]; exact Finset.mem_singleton_self _) (by rw [duties_dma m ρ (tgt b c) _ uV]; exact Finset.mem_singleton_self _)
    () () oN (oCredit b k') (amt_oS b k) (amt_oV b k') (O₀ := ledger c ((b, .dma (oV b k')) :: l)) (ledger c l)
    (by show ledger c l + tallyAt ((tgt b c : Thread nD τ), SemLoc.dma (oV b k')) () (amt (.dma (oV b k'))) = _; rw [amt_oV]) (W := W)
    (by show _ ⊢ dmaPay m ρ c (oS b k).val; rw [pay_oS]; exact BI.Entails.refl _)
    (by show _ ⊢ dmaPay m ρ (tgt b c) (oV b k').val; rw [pay_oV]; exact Entails.of_eq (pointsTo_congr (o_landed m ρ b c k k' hk fd))))
    $$ [HpR' Hd' HO Ht1 Ht2]
  · isplitr; · iapply (inv_dma m ρ K c _ uS); iexact HR
    isplitr; · iapply (inv_dma m ρ K (tgt b c) _ uV); iexact HR
    isplitl [HpR']; · iexact HpR'
    isplitl [Hd']; · iexact Hd'
    isplitl [HO]; · iexact HO
    isplitl [Ht1]; · iexact Ht1
    isplitr; · iapply (reached_dma m ρ K c _ uS); iexact HR
    isplitl [Ht2]; · iexact Ht2
    iapply (reached_dma m ρ K (tgt b c) _ uV); iexact HR
  iintro ⟨Hc, HO⟩
  iapply Hk
  isplitl [HpL]; · iexact HpL
  isplitl [Hc Hat]
  · rw [amt_oS]; isplitl [Hc] <;> iassumption
  iexists W; iexact HO

/-- A hop of statistics. -/
theorem wp_hop_s (c n : Dev nD) (b : Bool) (k k' : Fin 4) (hk : k'.val = k.val + 1) (hn : n = tgt b c) (l' l : List (Bool × SemLoc sig))
    (hl : l' = (b, .dma (sV b k')) :: l)
    {hsc : (sSlot b k' : Memref sig (Dev.tc n : Thread nD τ).2.kind .vmem S2x256x8 .f32).view.ref.isScScratch = false}
    {hsrc : (sSlot b k).view.WordExact} {hdst : (sSlot b k').view.WordExact}
    {hsem : DmaTarget.Typed .vmem (.dma (sV b k')) (.remote (Dev.tc n : Thread nD τ) (sSlot b k' : Memref sig .tc .vmem S2x256x8 .f32) (.dma (sS b k)) hsc)}
    {α : Type} {Q : α → sProp 𝕄} {kt : PUnit → Prog (TpuEff nD τ sig (Elt F) Λ₀ .tc) α} :
    iprop(records m ρ K ∗ sPts b k fullShare c (sFull m ρ b c) ∗ sAny b k' (tgt b c) ∗ fare c (tgt b c) (sS b k) (sV b k')
        ∗ ow c l')
      ⊢ iprop(((sPts b k fullShare.left c (sFull m ρ b c) ∗ due c (sS b k) ∗ ow c l) -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (sSlot b k) (.remote (Dev.tc n : Thread nD τ) (sSlot b k') (.dma (sS b k)) hsc) (.dma (sV b k')) hsrc hdst hsem) kt) Q) := by
  subst hn hl
  have uS : used (sS b k).val = true := used_sS b k (by intro e; subst e; have := k'.isLt; omega)
  have uV : used (sV b k').val = true := used_sV b k' (by intro e; subst e; exact absurd hk (by simp))
  unfold sAny fare ow due
  iintro ⟨#HR, Hp, ⟨%fd, Hd⟩, ⟨Ht1, Ht2, Hat⟩, ⟨%W, HO⟩⟩ Hk
  ihave Hp2 := (sPts_halves b k c (sFull m ρ b c)).1 $$ Hp
  icases Hp2 with ⟨HpL, HpR⟩
  ihave HpR' := (Entails.of_eq (show sPts b k fullShare.right c (sFull m ρ b c) = ((sSlot b k).view.loc (c : Thread nD τ) ↦[(sSlot b k).view.set]{fullShare.right} sFull m ρ b c : sProp 𝕄) from rfl)) $$ HpR
  ihave Hd' := (Entails.of_eq (show sPts b k' fullShare (tgt b c) fd = ((sSlot b k').view.loc (tgt b c : Thread nD τ) ↦[(sSlot b k').view.set]{fullShare} fd : sProp 𝕄) from rfl)) $$ Hd
  iapply (Rounds.wp_send_pointsTo 𝒱₀ ER (ringRd m ρ) (c : Thread nD τ) none (κ₁ := K (c, dIx (sS b k))) (κ₂ := K (tgt b c, dIx (sV b k')))
    (c' := (tgt b c : Thread nD τ)) (src := sSlot b k) (dst := sSlot b k') (sS := .dma (sS b k)) (sem := .dma (sV b k')) (q := fullShare.right) (fs := sFull m ρ b c)
    (r₁ := 0) (r₂ := 0) (d₁ := false) (d₂ := false) (fd := fd)
    (by rw [duties_dma m ρ c _ uS]; exact Finset.mem_singleton_self _) (by rw [duties_dma m ρ (tgt b c) _ uV]; exact Finset.mem_singleton_self _)
    () () sN (sCredit b k') (amt_sS b k) (amt_sV b k') (O₀ := ledger c ((b, .dma (sV b k')) :: l)) (ledger c l)
    (by show ledger c l + tallyAt ((tgt b c : Thread nD τ), SemLoc.dma (sV b k')) () (amt (.dma (sV b k'))) = _; rw [amt_sV]) (W := W)
    (by show _ ⊢ dmaPay m ρ c (sS b k).val; rw [pay_sS]; exact BI.Entails.refl _)
    (by show _ ⊢ dmaPay m ρ (tgt b c) (sV b k').val; rw [pay_sV]; exact Entails.of_eq (pointsTo_congr (s_landed m ρ b c k k' hk fd))))
    $$ [HpR' Hd' HO Ht1 Ht2]
  · isplitr; · iapply (inv_dma m ρ K c _ uS); iexact HR
    isplitr; · iapply (inv_dma m ρ K (tgt b c) _ uV); iexact HR
    isplitl [HpR']; · iexact HpR'
    isplitl [Hd']; · iexact Hd'
    isplitl [HO]; · iexact HO
    isplitl [Ht1]; · iexact Ht1
    isplitr; · iapply (reached_dma m ρ K c _ uS); iexact HR
    isplitl [Ht2]; · iexact Ht2
    iapply (reached_dma m ρ K (tgt b c) _ uV); iexact HR
  iintro ⟨Hc, HO⟩
  iapply Hk
  isplitl [HpL]; · iexact HpL
  isplitl [Hc Hat]
  · rw [amt_sS]; isplitl [Hc] <;> iassumption
  iexists W; iexact HO

/-- A wait for a transfer, below everything still owed: it brings what the transfer's end brings. -/
theorem wp_take (c : Dev nD) (q : DmaSem sig) (hq : used q.val = true) (l : List (Bool × SemLoc sig))
    (hl : ∀ p ∈ l, lvS (.dma q) < lvS p.2) {s : Shape} {e : EltTy}
    {src dst : Memref sig .tc .vmem s e} {hsrc : src.view.WordExact} {hdst : dst.view.WordExact} (hN : dst.view.dmaCredit = amt (.dma q))
    {P : sProp 𝕄} (hP : dmaPay m ρ c q.val = P)
    {α : Type} {Q : α → sProp 𝕄} {kt : PUnit → Prog (TpuEff nD τ sig (Elt F) Λ₀ .tc) α} :
    iprop(records m ρ K ∗ levAts L lv ∗ due c q ∗ ow c l)
      ⊢ iprop(((P ∗ done c q ∗ ow c l) -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 q src dst hsrc hdst) kt) Q) := by
  subst hP
  unfold due done ow
  iintro ⟨#HR, #Hlev, ⟨Hc, Hat⟩, ⟨%W, HO⟩⟩ Hk
  iapply (Rounds.wp_wait_rest_token 𝒱₀ ER (ringRd m ρ) (c : Thread nD τ) none (κ := K (c, dIx q))
      (wpE_waitDma2_eq 𝒱₀ (c : Thread nD τ) none Set.univ) (Set.mem_univ _) () (O := ledger c l) (W := W) (R := 0) (m := 0) (T := ∅)
      (by rw [Nat.zero_add, hN, expect_dma m ρ c q hq])) $$ [Hc HO Hat]
  · isplitr; · iapply (inv_dma m ρ K c q hq); iexact HR
    isplitl [Hc]; · rw [hN]; iexact Hc
    isplitl [HO]; · iexact HO
    isplitr; · iapply (mayWait c (.dma q) l _ rfl hl); iexact Hlev
    iexact Hat
  iintro ⟨HO, Hat, -, Hpay⟩
  iapply Hk
  isplitl [Hpay]; · iapply (Entails.of_eq (rest_dma m ρ c q hq)); iexact Hpay
  isplitl [Hat]; · iexact Hat
  iexists _; iexact HO

end Rules

/-! ## A buffer and its four slots -/

theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

def oWh (b : Bool) (q : PosShare TreeShare) (c : Dev nD) (f : Buf (Elt F) ((oM b).view.loc (c : Thread nD τ))) : sProp 𝕄 :=
  (oM b).view.loc (c : Thread nD τ) ↦[(oM b).view.set]{q} f
def sWh (b : Bool) (q : PosShare TreeShare) (c : Dev nD) (f : Buf (Elt F) ((sM b).view.loc (c : Thread nD τ))) : sProp 𝕄 :=
  (sM b).view.loc (c : Thread nD τ) ↦[(sM b).view.set]{q} f

theorem oWh_slots (b : Bool) (q : PosShare TreeShare) (c : Dev nD) (f : Buf (Elt F) ((oM b).view.loc (c : Thread nD τ))) :
    oWh b q c f = iprop(oPts b 0 q c f ∗ oPts b 1 q c f ∗ oPts b 2 q c f ∗ oPts b 3 q c f) := by
  unfold oWh
  refine (congrArg (fun I => ((oM b).view.loc (c : Thread nD τ) ↦[I]{q} f : sProp 𝕄)) (oSlot_cover b).symm).trans
    ((pointsTo_biUnion (ℓ := (oM b).view.loc (c : Thread nD τ)) (f := f) Finset.univ (oSet b) (fun k _ k' _ h => oSlot_disjoint b k k' h)).trans ?_)
  rw [bigSep_fin4]; rfl
theorem sWh_slots (b : Bool) (q : PosShare TreeShare) (c : Dev nD) (f : Buf (Elt F) ((sM b).view.loc (c : Thread nD τ))) :
    sWh b q c f = iprop(sPts b 0 q c f ∗ sPts b 1 q c f ∗ sPts b 2 q c f ∗ sPts b 3 q c f) := by
  unfold sWh
  refine (congrArg (fun I => ((sM b).view.loc (c : Thread nD τ) ↦[I]{q} f : sProp 𝕄)) (sSlot_cover b).symm).trans
    ((pointsTo_biUnion (ℓ := (sM b).view.loc (c : Thread nD τ)) (f := f) Finset.univ (sSet b) (fun k _ k' _ h => sSlot_disjoint b k k' h)).trans ?_)
  rw [bigSep_fin4]; rfl
theorem oWh_halves (b : Bool) (c : Dev nD) (f) : oWh (F := F) b fullShare c f ⊣⊢ iprop(oWh b fullShare.left c f ∗ oWh b fullShare.right c f) :=
  pointsTo_share (PosShare.mem_left_op_right fullShare)
theorem sWh_halves (b : Bool) (c : Dev nD) (f) : sWh (F := F) b fullShare c f ⊣⊢ iprop(sWh b fullShare.left c f ∗ sWh b fullShare.right c f) :=
  pointsTo_share (PosShare.mem_left_op_right fullShare)

end Cert.KernelIdeal.Run

end
-- ==== Proof.KernelIdeal.Access.lean ====
/-
# Loads and stores on the rings' buffers

The stores that fill slot 0 leave the final contents there; the loads of whole buffers read the final contents, with only
half of the slots that were sent from at hand.
-/
module

public import proofs.«01_k».proof.Proof.KernelIdeal.Steps

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Filling slot 0 -/

theorem oAcc_set (b : Bool) : ((oM b).access (oRect 0) : View sig .tc _ _ _).set = oSet b 0 :=
  (View.set_reshape (v := ((oM b).slice (oRect 0) (fun _ => rfl)).view) _).symm

theorem sRectM_sub (b : Bool) : ((sM b).access sRectM : View sig .tc _ _ _).set ⊆ sSet b 0 := by
  have e : ((sM b).access sRectM : View sig .tc _ _ _).set = sRectM.set.map (sM b).view.emb := View.set_slice _ _
  rw [e]; unfold sSet; rw [sSlot_set]
  refine Finset.map_subset_map.mpr fun y hy => ?_
  rw [Rect.mem_set_unit] at hy ⊢
  intro a
  match a with
  | ⟨0, _⟩ => exact hy 0
  | ⟨1, _⟩ => exact ⟨Nat.zero_le _, (Nat.zero_add _).symm ▸ (y (1 : Fin 4)).isLt⟩
  | ⟨2, _⟩ => exact hy 2
  | ⟨3, _⟩ => exact hy 3
theorem sRectL_sub (b : Bool) : ((sM b).access sRectL : View sig .tc _ _ _).set ⊆ sSet b 0 := by
  have e : ((sM b).access sRectL : View sig .tc _ _ _).set = sRectL.set.map (sM b).view.emb := View.set_slice _ _
  rw [e]; unfold sSet; rw [sSlot_set]
  refine Finset.map_subset_map.mpr fun y hy => ?_
  rw [Rect.mem_set_unit] at hy ⊢
  intro a
  match a with
  | ⟨0, _⟩ => exact hy 0
  | ⟨1, _⟩ => exact ⟨Nat.zero_le _, (Nat.zero_add _).symm ▸ (y (1 : Fin 4)).isLt⟩
  | ⟨2, _⟩ => exact hy 2
  | ⟨3, _⟩ => exact hy 3

section Rules

/-- A load of slot 0: nothing changes. -/
theorem wp_ld_o0 (c : Dev nD) (b : Bool) {hl : (oM b).view.LoadsAt (oRect 0).toLoadRect}
    {α : Type} {Q : α → sProp 𝕄} {kt : ((oRect 0).toLoadRect.shape.Idx → Elt F .f32) → Prog (TpuEff nD τ sig (Elt F) Λ₀ .tc) α} :
    oAny b 0 c ⊢ iprop((∀ x, oAny b 0 c -∗ wp frame (wpE (defs₀ (F := F)) 𝒱₀ (c : Thread nD τ) none) Set.univ (kt x) Q)
        -∗ wp frame (wpE (defs₀ (F := F)) 𝒱₀ (c : Thread nD τ) none) Set.univ (.op (.load (oM b) (oRect 0).toLoadRect hl) kt) Q) := by
  unfold oAny oPts
  iintro ⟨%f, H⟩ Hk
  iapply (wp_load_rect 𝒱₀ (c : Thread nD τ) none Set.univ (m := oM b) (r := oRect 0) (S := oSet b 0) (f := f) (oAcc_set b).le) $$ H
  iintro H
  iapply Hk
  iexists f; iexact H

/-- The store of a device's own block to slot 0. -/
theorem wp_st_o0 (c : Dev nD) (b : Bool) {w : (oRect 0).shape.Idx → Elt F .f32} (hw : w = oOwn m ρ b c)
    {hx : ((oM b).access (oRect 0)).Stores Finset.univ} {hm : (Finset.univ : Finset (oRect 0).shape.Idx) = Finset.univ ∨ ∀ a, (oRect 0).stride a = 1}
    {α : Type} {Q : α → sProp 𝕄} {kt : PUnit → Prog (TpuEff nD τ sig (Elt F) Λ₀ .tc) α} :
    oAny b 0 c ⊢ iprop((oPts b 0 fullShare c (oFull m ρ b c) -∗ wp frame (wpE (defs₀ (F := F)) 𝒱₀ (c : Thread nD τ) none) Set.univ (kt ⟨⟩) Q)
        -∗ wp frame (wpE (defs₀ (F := F)) 𝒱₀ (c : Thread nD τ) none) Set.univ (.op (.store (oM b) (oRect 0) w Finset.univ hx hm) kt) Q) := by
  subst hw
  unfold oAny oPts
  iintro ⟨%f, H⟩ Hk
  iapply (wp_store 𝒱₀ (c : Thread nD τ) none Set.univ (m := oM b) (r := oRect 0) (w := oOwn m ρ b c) (Mk := Finset.univ) (S := oSet b 0) (f := f) (oAcc_set b).le) $$ H
  iintro H
  iapply Hk
  iapply (Entails.of_eq (pointsTo_congr (o_stored m ρ b c f))); iexact H

/-- Slot 0 of a buffer of statistics with the maxima in place. -/
def sMid (b : Bool) (c : Dev nD) : sProp 𝕄 :=
  iprop(∃ f, sPts b 0 fullShare c (((sM b).access sRectM : View sig .tc _ _ _).write (Elt F) f (mOwn m ρ b c) Finset.univ))

theorem wp_ld_sM (c : Dev nD) (b : Bool) {hl : (sM b).view.LoadsAt sRectM.toLoadRect}
    {α : Type} {Q : α → sProp 𝕄} {kt : (sRectM.toLoadRect.shape.Idx → Elt F .f32) → Prog (TpuEff nD τ sig (Elt F) Λ₀ .tc) α} :
    sAny b 0 c ⊢ iprop((∀ x, sAny b 0 c -∗ wp frame (wpE (defs₀ (F := F)) 𝒱₀ (c : Thread nD τ) none) Set.univ (kt x) Q)
        -∗ wp frame (wpE (defs₀ (F := F)) 𝒱₀ (c : Thread nD τ) none) Set.univ (.op (.load (sM b) sRectM.toLoadRect hl) kt) Q) := by
  unfold sAny sPts
  iintro ⟨%f, H⟩ Hk
  iapply (wp_load_rect 𝒱₀ (c : Thread nD τ) none Set.univ (m := sM b) (r := sRectM) (S := sSet b 0) (f := f) (sRectM_sub b)) $$ H
  iintro H
  iapply Hk
  iexists f; iexact H

theorem wp_st_sM (c : Dev nD) (b : Bool) {w : sRectM.shape.Idx → Elt F .f32} (hw : w = mOwn m ρ b c)
    {hx : ((sM b).access sRectM).Stores Finset.univ} {hm : (Finset.univ : Finset sRectM.shape.Idx) = Finset.univ ∨ ∀ a, sRectM.stride a = 1}
    {α : Type} {Q : α → sProp 𝕄} {kt : PUnit → Prog (TpuEff nD τ sig (Elt F) Λ₀ .tc) α} :
    sAny b 0 c ⊢ iprop((sMid m ρ b c -∗ wp frame (wpE (defs₀ (F := F)) 𝒱₀ (c : Thread nD τ) none) Set.univ (kt ⟨⟩) Q)
        -∗ wp frame (wpE (defs₀ (F := F)) 𝒱₀ (c : Thread nD τ) none) Set.univ (.op (.store (sM b) sRectM w Finset.univ hx hm) kt) Q) := by
  subst hw
  unfold sAny sMid sPts
  iintro ⟨%f, H⟩ Hk
  iapply (wp_store 𝒱₀ (c : Thread nD τ) none Set.univ (m := sM b) (r := sRectM) (w := mOwn m ρ b c) (Mk := Finset.univ) (S := sSet b 0) (f := f) (sRectM_sub b)) $$ H
  iintro H
  iapply Hk
  iexists f; iexact H

theorem wp_ld_sL (c : Dev nD) (b : Bool) {hl : (sM b).view.LoadsAt sRectL.toLoadRect}
    {α : Type} {Q : α → sProp 𝕄} {kt : (sRectL.toLoadRect.shape.Idx → Elt F .f32) → Prog (TpuEff nD τ sig (Elt F) Λ₀ .tc) α} :
    sMid m ρ b c ⊢ iprop((∀ x, sMid m ρ b c -∗ wp frame (wpE (defs₀ (F := F)) 𝒱₀ (c : Thread nD τ) none) Set.univ (kt x) Q)
        -∗ wp frame (wpE (defs₀ (F := F)) 𝒱₀ (c : Thread nD τ) none) Set.univ (.op (.load (sM b) sRectL.toLoadRect hl) kt) Q) := by
  unfold sMid sPts
  iintro ⟨%f, H⟩ Hk
  iapply (wp_load_rect 𝒱₀ (c : Thread nD τ) none Set.univ (m := sM b) (r := sRectL) (S := sSet b 0) (sRectL_sub b)) $$ H
  iintro H
  iapply Hk
  iexists f; iexact H

theorem wp_st_sL (c : Dev nD) (b : Bool) {w : sRectL.shape.Idx → Elt F .f32} (hw : w = lOwn m ρ b c)
    {hx : ((sM b).access sRectL).Stores Finset.univ} {hm : (Finset.univ : Finset sRectL.shape.Idx) = Finset.univ ∨ ∀ a, sRectL.stride a = 1}
    {α : Type} {Q : α → sProp 𝕄} {kt : PUnit → Prog (TpuEff nD τ sig (Elt F) Λ₀ .tc) α} :
    sMid m ρ b c ⊢ iprop((sPts b 0 fullShare c (sFull m ρ b c) -∗ wp frame (wpE (defs₀ (F := F)) 𝒱₀ (c : Thread nD τ) none) Set.univ (kt ⟨⟩) Q)
        -∗ wp frame (wpE (defs₀ (F := F)) 𝒱₀ (c : Thread nD τ) none) Set.univ (.op (.store (sM b) sRectL w Finset.univ hx hm) kt) Q) := by
  subst hw
  unfold sMid sPts
  iintro ⟨%f, H⟩ Hk
  iapply (wp_store 𝒱₀ (c : Thread nD τ) none Set.univ (m := sM b) (r := sRectL) (w := lOwn m ρ b c) (Mk := Finset.univ) (S := sSet b 0) (sRectL_sub b)) $$ H
  iintro H
  iapply Hk
  iapply (Entails.of_eq (pointsTo_congr (s_stored m ρ b c f))); iexact H

/-! ## Reading the full buffers -/

/-- What a merge reads of a buffer: half of each slot that was sent from, and the last slot. -/
def oLeft (b : Bool) (c : Dev nD) : sProp 𝕄 :=
  iprop(oPts b 0 fullShare.left c (oFull m ρ b c) ∗ oPts b 1 fullShare.left c (oFull m ρ b c) ∗ oPts b 2 fullShare.left c (oFull m ρ b c)
    ∗ oPts b 3 fullShare c (oFull m ρ b c))
abbrev oRW : Rect S4x256x8x128 := Rect.unit (s := S4x256x8x128) ![0, 0, 0, 0] S4x256x8x128.size inb_S4x256x8x128_S4x256x8x128_0_0_0_0
theorem oRW_read (b : Bool) (c : Dev nD) : (oM b).view.readAt (Elt F) oRW.toLoadRect (oFull m ρ b c) = oVec m ρ b c := by
  funext z
  rw [View.readAt_apply, read_oFull]
  refine congrArg (oVec m ρ b c) (funext fun a => Fin.ext ?_)
  show (![0, 0, 0, 0] : Fin 4 → Nat) a + 1 * (z a).val = (z a).val
  have : (![0, 0, 0, 0] : Fin 4 → Nat) a = 0 := by revert a; decide
  rw [this]; omega
theorem wp_ld_o (c : Dev nD) (b : Bool) {hl : (oM b).view.LoadsAt oRW.toLoadRect}
    {α : Type} {Q : α → sProp 𝕄} {kt : (oRW.toLoadRect.shape.Idx → Elt F .f32) → Prog (TpuEff nD τ sig (Elt F) Λ₀ .tc) α} :
    oLeft m ρ b c ⊢ iprop((oLeft m ρ b c -∗ wp frame (wpE (defs₀ (F := F)) 𝒱₀ (c : Thread nD τ) none) Set.univ (kt (oVec m ρ b c)) Q)
        -∗ wp frame (wpE (defs₀ (F := F)) 𝒱₀ (c : Thread nD τ) none) Set.univ (.op (.load (oM b) oRW.toLoadRect hl) kt) Q) := by
  unfold oLeft
  iintro ⟨H0, H1, H2, H3⟩ Hk
  ihave H3' := (oPts_halves b 3 c (oFull m ρ b c)).1 $$ H3
  icases H3' with ⟨H3L, H3R⟩
  ihave HW := (Entails.of_eq (oWh_slots b fullShare.left c (oFull m ρ b c)).symm) $$ [H0 H1 H2 H3L]
  · isplitl [H0]; · iexact H0
    isplitl [H1]; · iexact H1
    isplitl [H2]; · iexact H2
    iexact H3L
  ihave HW' := (Entails.of_eq (show oWh b fullShare.left c (oFull m ρ b c) = ((oM b).view.loc (c : Thread nD τ) ↦[(oM b).view.set]{fullShare.left} oFull m ρ b c : sProp 𝕄) from rfl)) $$ HW
  iapply (wp_load 𝒱₀ (c : Thread nD τ) none Set.univ (m := oM b) (r := oRW.toLoadRect) (View.setOn_subset_set _ _)) $$ HW'
  iintro HW
  rw [oRW_read]
  ihave HW := (Entails.of_eq (show ((oM b).view.loc (c : Thread nD τ) ↦[(oM b).view.set]{fullShare.left} oFull m ρ b c : sProp 𝕄) = oWh b fullShare.left c (oFull m ρ b c) from rfl)) $$ HW
  ihave HW' := (Entails.of_eq (oWh_slots b fullShare.left c (oFull m ρ b c))) $$ HW
  icases HW' with ⟨H0, H1, H2, H3L⟩
  ihave H3 := (oPts_halves b 3 c (oFull m ρ b c)).2 $$ [H3L H3R]
  · isplitl [H3L]; · iexact H3L
    iexact H3R
  iapply Hk
  isplitl [H0]; · iexact H0
  isplitl [H1]; · iexact H1
  isplitl [H2]; · iexact H2
  iexact H3

/-- What a merge reads of a buffer: half of each slot that was sent from, and the last slot. -/
def sLeft (b : Bool) (c : Dev nD) : sProp 𝕄 :=
  iprop(sPts b 0 fullShare.left c (sFull m ρ b c) ∗ sPts b 1 fullShare.left c (sFull m ρ b c) ∗ sPts b 2 fullShare.left c (sFull m ρ b c)
    ∗ sPts b 3 fullShare c (sFull m ρ b c))
abbrev sRW : Rect S4x2x256x8 := Rect.unit (s := S4x2x256x8) ![0, 0, 0, 0] S4x2x256x8.size inb_S4x2x256x8_S4x2x256x8_0_0_0_0
theorem sRW_read (b : Bool) (c : Dev nD) : (sM b).view.readAt (Elt F) sRW.toLoadRect (sFull m ρ b c) = sVec m ρ b c := by
  funext z
  rw [View.readAt_apply, read_sFull]
  refine congrArg (sVec m ρ b c) (funext fun a => Fin.ext ?_)
  show (![0, 0, 0, 0] : Fin 4 → Nat) a + 1 * (z a).val = (z a).val
  have : (![0, 0, 0, 0] : Fin 4 → Nat) a = 0 := by revert a; decide
  rw [this]; omega
theorem wp_ld_s (c : Dev nD) (b : Bool) {hl : (sM b).view.LoadsAt sRW.toLoadRect}
    {α : Type} {Q : α → sProp 𝕄} {kt : (sRW.toLoadRect.shape.Idx → Elt F .f32) → Prog (TpuEff nD τ sig (Elt F) Λ₀ .tc) α} :
    sLeft m ρ b c ⊢ iprop((sLeft m ρ b c -∗ wp frame (wpE (defs₀ (F := F)) 𝒱₀ (c : Thread nD τ) none) Set.univ (kt (sVec m ρ b c)) Q)
        -∗ wp frame (wpE (defs₀ (F := F)) 𝒱₀ (c : Thread nD τ) none) Set.univ (.op (.load (sM b) sRW.toLoadRect hl) kt) Q) := by
  unfold sLeft
  iintro ⟨H0, H1, H2, H3⟩ Hk
  ihave H3' := (sPts_halves b 3 c (sFull m ρ b c)).1 $$ H3
  icases H3' with ⟨H3L, H3R⟩
  ihave HW := (Entails.of_eq (sWh_slots b fullShare.left c (sFull m ρ b c)).symm) $$ [H0 H1 H2 H3L]
  · isplitl [H0]; · iexact H0
    isplitl [H1]; · iexact H1
    isplitl [H2]; · iexact H2
    iexact H3L
  ihave HW' := (Entails.of_eq (show sWh b fullShare.left c (sFull m ρ b c) = ((sM b).view.loc (c : Thread nD τ) ↦[(sM b).view.set]{fullShare.left} sFull m ρ b c : sProp 𝕄) from rfl)) $$ HW
  iapply (wp_load 𝒱₀ (c : Thread nD τ) none Set.univ (m := sM b) (r := sRW.toLoadRect) (View.setOn_subset_set _ _)) $$ HW'
  iintro HW
  rw [sRW_read]
  ihave HW := (Entails.of_eq (show ((sM b).view.loc (c : Thread nD τ) ↦[(sM b).view.set]{fullShare.left} sFull m ρ b c : sProp 𝕄) = sWh b fullShare.left c (sFull m ρ b c) from rfl)) $$ HW
  ihave HW' := (Entails.of_eq (sWh_slots b fullShare.left c (sFull m ρ b c))) $$ HW
  icases HW' with ⟨H0, H1, H2, H3L⟩
  ihave H3 := (sPts_halves b 3 c (sFull m ρ b c)).2 $$ [H3L H3R]
  · isplitl [H3L]; · iexact H3L
    iexact H3R
  iapply Hk
  isplitl [H0]; · iexact H0
  isplitl [H1]; · iexact H1
  isplitl [H2]; · iexact H2
  iexact H3

end Rules

end Cert.KernelIdeal.Run

end
-- ==== Proof.KernelIdeal.State.lean ====
/-
# What a device starts from and ends with

The ghost state dealt to a device, opened into what its steps take; its buffers, opened into slots and closed again; its
cells, closed at the end.
-/
module

public import proofs.«01_k».proof.Proof.KernelIdeal.Access
public import proofs.«01_k».proof.Proof.Gen.KernelIdeal.Points
public import proofs.«01_k».proof.Proof.Gen.KernelIdeal.Skeleton

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Duty tokens by payer -/

/-- The thirty-four duties a device pays: one on each DMA semaphore, and two on barriers. -/
def pcell (j : Fin 34) : SemLoc sig := if h : j.val < 32 then osem ⟨j.val, h⟩ else .reg barS
def pduty (j : Fin 34) : Bool := decide (j.val = 33)
/-- On whose cell it pays. -/
def pdev (j : Fin 34) (c : Dev nD) : Dev nD :=
  if j.val < 32 then (if isRecv (6 + j.val) then tgt (wayOf (6 + j.val)) c else c) else if j.val = 32 then tgt false c else tgt true c
/-- Who pays on a device's cell. -/
def qdev (j : Fin 34) (c : Dev nD) : Dev nD :=
  if j.val < 32 then (if isRecv (6 + j.val) then frm (wayOf (6 + j.val)) c else c) else if j.val = 32 then frm false c else frm true c
theorem qdev_pdev (j : Fin 34) (c : Dev nD) : qdev j (pdev j c) = c := by revert j c; decide
theorem pdev_qdev (j : Fin 34) (c : Dev nD) : pdev j (qdev j c) = c := by revert j c; decide

def payToks (c : Dev nD) : sProp 𝕄 :=
  bigSep Finset.univ fun j : Fin 34 => dutyTok ER ((pdev j c : Thread nD τ), pcell j) 0 (pduty j)

/-- A device's positions at the start. -/
def posAt (c : Dev nD) : sProp 𝕄 := bigSep Finset.univ fun j : Fin 33 => atPos ER (kcell (c, j)) 0 ∅ 0

/-- The launch's credits: the barrier's two units, and one transfer for each receive semaphore in use. -/
def credits (c : Dev nD) : sProp 𝕄 :=
  iprop(cred (tallyAt ((c : Thread nD τ), SemLoc.reg barS) () 2)
    ∗ cred (tallyAt ((c : Thread nD τ), SemLoc.dma (oV false 1)) () (amt (.dma (oV false 1))))
    ∗ cred (tallyAt ((c : Thread nD τ), SemLoc.dma (oV false 2)) () (amt (.dma (oV false 2))))
    ∗ cred (tallyAt ((c : Thread nD τ), SemLoc.dma (oV false 3)) () (amt (.dma (oV false 3))))
    ∗ cred (tallyAt ((c : Thread nD τ), SemLoc.dma (oV true 1)) () (amt (.dma (oV true 1))))
    ∗ cred (tallyAt ((c : Thread nD τ), SemLoc.dma (oV true 2)) () (amt (.dma (oV true 2))))
    ∗ cred (tallyAt ((c : Thread nD τ), SemLoc.dma (oV true 3)) () (amt (.dma (oV true 3))))
    ∗ cred (tallyAt ((c : Thread nD τ), SemLoc.dma (sV false 1)) () (amt (.dma (sV false 1))))
    ∗ cred (tallyAt ((c : Thread nD τ), SemLoc.dma (sV false 2)) () (amt (.dma (sV false 2))))
    ∗ cred (tallyAt ((c : Thread nD τ), SemLoc.dma (sV false 3)) () (amt (.dma (sV false 3))))
    ∗ cred (tallyAt ((c : Thread nD τ), SemLoc.dma (sV true 1)) () (amt (.dma (sV true 1))))
    ∗ cred (tallyAt ((c : Thread nD τ), SemLoc.dma (sV true 2)) () (amt (.dma (sV true 2))))
    ∗ cred (tallyAt ((c : Thread nD τ), SemLoc.dma (sV true 3)) () (amt (.dma (sV true 3)))))

omit [FloatOps F] in
theorem posAt_eq (c : Dev nD) : (posAt c : sProp 𝕄) = iprop(atPos ER ((c : Thread nD τ), .dma (oS false 0)) 0 ∅ 0
    ∗ atPos ER ((c : Thread nD τ), .dma (oS false 1)) 0 ∅ 0
    ∗ atPos ER ((c : Thread nD τ), .dma (oS false 2)) 0 ∅ 0
    ∗ atPos ER ((c : Thread nD τ), .dma (oS false 3)) 0 ∅ 0
    ∗ atPos ER ((c : Thread nD τ), .dma (oV false 0)) 0 ∅ 0
    ∗ atPos ER ((c : Thread nD τ), .dma (oV false 1)) 0 ∅ 0
    ∗ atPos ER ((c : Thread nD τ), .dma (oV false 2)) 0 ∅ 0
    ∗ atPos ER ((c : Thread nD τ), .dma (oV false 3)) 0 ∅ 0
    ∗ atPos ER ((c : Thread nD τ), .dma (oS true 0)) 0 ∅ 0
    ∗ atPos ER ((c : Thread nD τ), .dma (oS true 1)) 0 ∅ 0
    ∗ atPos ER ((c : Thread nD τ), .dma (oS true 2)) 0 ∅ 0
    ∗ atPos ER ((c : Thread nD τ), .dma (oS true 3)) 0 ∅ 0
    ∗ atPos ER ((c : Thread nD τ), .dma (oV true 0)) 0 ∅ 0
    ∗ atPos ER ((c : Thread nD τ), .dma (oV true 1)) 0 ∅ 0
    ∗ atPos ER ((c : Thread nD τ), .dma (oV true 2)) 0 ∅ 0
    ∗ atPos ER ((c : Thread nD τ), .dma (oV true 3)) 0 ∅ 0
    ∗ atPos ER ((c : Thread nD τ), .dma (sS false 0)) 0 ∅ 0
    ∗ atPos ER ((c : Thread nD τ), .dma (sS false 1)) 0 ∅ 0
    ∗ atPos ER ((c : Thread nD τ), .dma (sS false 2)) 0 ∅ 0
    ∗ atPos ER ((c : Thread nD τ), .dma (sS false 3)) 0 ∅ 0
    ∗ atPos ER ((c : Thread nD τ), .dma (sV false 0)) 0 ∅ 0
    ∗ atPos ER ((c : Thread nD τ), .dma (sV false 1)) 0 ∅ 0
    ∗ atPos ER ((c : Thread nD τ), .dma (sV false 2)) 0 ∅ 0
    ∗ atPos ER ((c : Thread nD τ), .dma (sV false 3)) 0 ∅ 0
    ∗ atPos ER ((c : Thread nD τ), .dma (sS true 0)) 0 ∅ 0
    ∗ atPos ER ((c : Thread nD τ), .dma (sS true 1)) 0 ∅ 0
    ∗ atPos ER ((c : Thread nD τ), .dma (sS true 2)) 0 ∅ 0
    ∗ atPos ER ((c : Thread nD τ), .dma (sS true 3)) 0 ∅ 0
    ∗ atPos ER ((c : Thread nD τ), .dma (sV true 0)) 0 ∅ 0
    ∗ atPos ER ((c : Thread nD τ), .dma (sV true 1)) 0 ∅ 0
    ∗ atPos ER ((c : Thread nD τ), .dma (sV true 2)) 0 ∅ 0
    ∗ atPos ER ((c : Thread nD τ), .dma (sV true 3)) 0 ∅ 0
    ∗ atPos ER ((c : Thread nD τ), .reg barS) 0 ∅ 0) :=
  (bigSep_univ_eq_bigSepL [0, 1, 2, 3, 4, 5, 6, 7, 8, 9, 10, 11, 12, 13, 14, 15, 16, 17, 18, 19, 20, 21, 22, 23, 24, 25, 26, 27, 28, 29, 30, 31, 32] (by decide) (by decide) _).trans rfl

omit [FloatOps F] in
theorem payToks_eq (c : Dev nD) : (payToks c : sProp 𝕄) = iprop(dutyTok ER ((c : Thread nD τ), .dma (oS false 0)) 0 false
    ∗ dutyTok ER ((c : Thread nD τ), .dma (oS false 1)) 0 false
    ∗ dutyTok ER ((c : Thread nD τ), .dma (oS false 2)) 0 false
    ∗ dutyTok ER ((c : Thread nD τ), .dma (oS false 3)) 0 false
    ∗ dutyTok ER ((tgt false c : Thread nD τ), .dma (oV false 0)) 0 false
    ∗ dutyTok ER ((tgt false c : Thread nD τ), .dma (oV false 1)) 0 false
    ∗ dutyTok ER ((tgt false c : Thread nD τ), .dma (oV false 2)) 0 false
    ∗ dutyTok ER ((tgt false c : Thread nD τ), .dma (oV false 3)) 0 false
    ∗ dutyTok ER ((c : Thread nD τ), .dma (oS true 0)) 0 false
    ∗ dutyTok ER ((c : Thread nD τ), .dma (oS true 1)) 0 false
    ∗ dutyTok ER ((c : Thread nD τ), .dma (oS true 2)) 0 false
    ∗ dutyTok ER ((c : Thread nD τ), .dma (oS true 3)) 0 false
    ∗ dutyTok ER ((tgt true c : Thread nD τ), .dma (oV true 0)) 0 false
    ∗ dutyTok ER ((tgt true c : Thread nD τ), .dma (oV true 1)) 0 false
    ∗ dutyTok ER ((tgt true c : Thread nD τ), .dma (oV true 2)) 0 false
    ∗ dutyTok ER ((tgt true c : Thread nD τ), .dma (oV true 3)) 0 false
    ∗ dutyTok ER ((c : Thread nD τ), .dma (sS false 0)) 0 false
    ∗ dutyTok ER ((c : Thread nD τ), .dma (sS false 1)) 0 false
    ∗ dutyTok ER ((c : Thread nD τ), .dma (sS false 2)) 0 false
    ∗ dutyTok ER ((c : Thread nD τ), .dma (sS false 3)) 0 false
    ∗ dutyTok ER ((tgt false c : Thread nD τ), .dma (sV false 0)) 0 false
    ∗ dutyTok ER ((tgt false c : Thread nD τ), .dma (sV false 1)) 0 false
    ∗ dutyTok ER ((tgt false c : Thread nD τ), .dma (sV false 2)) 0 false
    ∗ dutyTok ER ((tgt false c : Thread nD τ), .dma (sV false 3)) 0 false
    ∗ dutyTok ER ((c : Thread nD τ), .dma (sS true 0)) 0 false
    ∗ dutyTok ER ((c : Thread nD τ), .dma (sS true 1)) 0 false
    ∗ dutyTok ER ((c : Thread nD τ), .dma (sS true 2)) 0 false
    ∗ dutyTok ER ((c : Thread nD τ), .dma (sS true 3)) 0 false
    ∗ dutyTok ER ((tgt true c : Thread nD τ), .dma (sV true 0)) 0 false
    ∗ dutyTok ER ((tgt true c : Thread nD τ), .dma (sV true 1)) 0 false
    ∗ dutyTok ER ((tgt true c : Thread nD τ), .dma (sV true 2)) 0 false
    ∗ dutyTok ER ((tgt true c : Thread nD τ), .dma (sV true 3)) 0 false
    ∗ dutyTok ER ((tgt false c : Thread nD τ), .reg barS) 0 false ∗ dutyTok ER ((tgt true c : Thread nD τ), .reg barS) 0 true) :=
  (bigSep_univ_eq_bigSepL [0, 1, 2, 3, 4, 5, 6, 7, 8, 9, 10, 11, 12, 13, 14, 15, 16, 17, 18, 19, 20, 21, 22, 23, 24, 25, 26, 27, 28, 29, 30, 31, 32, 33] (by decide) (by decide) _).trans rfl

/-- All that, sorted by the step that uses it. -/
def opened (c : Dev nD) : sProp 𝕄 :=
  iprop(atPos ER ((c : Thread nD τ), .reg barS) 0 ∅ 0
    ∗ cred (tallyAt ((c : Thread nD τ), SemLoc.reg barS) () 2)
    ∗ dutyTok ER ((tgt true c : Thread nD τ), .reg barS) 0 true
    ∗ dutyTok ER ((tgt false c : Thread nD τ), .reg barS) 0 false
    ∗ fare c (tgt false c) (oS false 0) (oV false 1)
    ∗ fare c (tgt false c) (oS false 1) (oV false 2)
    ∗ fare c (tgt false c) (oS false 2) (oV false 3)
    ∗ fare c (tgt true c) (oS true 0) (oV true 1)
    ∗ fare c (tgt true c) (oS true 1) (oV true 2)
    ∗ fare c (tgt true c) (oS true 2) (oV true 3)
    ∗ fare c (tgt false c) (sS false 0) (sV false 1)
    ∗ fare c (tgt false c) (sS false 1) (sV false 2)
    ∗ fare c (tgt false c) (sS false 2) (sV false 3)
    ∗ fare c (tgt true c) (sS true 0) (sV true 1)
    ∗ fare c (tgt true c) (sS true 1) (sV true 2)
    ∗ fare c (tgt true c) (sS true 2) (sV true 3)
    ∗ due c (oV false 1)
    ∗ due c (oV false 2)
    ∗ due c (oV false 3)
    ∗ due c (oV true 1)
    ∗ due c (oV true 2)
    ∗ due c (oV true 3)
    ∗ due c (sV false 1)
    ∗ due c (sV false 2)
    ∗ due c (sV false 3)
    ∗ due c (sV true 1)
    ∗ due c (sV true 2)
    ∗ due c (sV true 3)
    ∗ atPos ER ((c : Thread nD τ), .dma (oS false 3)) 0 ∅ 0
    ∗ atPos ER ((c : Thread nD τ), .dma (oV false 0)) 0 ∅ 0
    ∗ atPos ER ((c : Thread nD τ), .dma (oS true 3)) 0 ∅ 0
    ∗ atPos ER ((c : Thread nD τ), .dma (oV true 0)) 0 ∅ 0
    ∗ atPos ER ((c : Thread nD τ), .dma (sS false 3)) 0 ∅ 0
    ∗ atPos ER ((c : Thread nD τ), .dma (sV false 0)) 0 ∅ 0
    ∗ atPos ER ((c : Thread nD τ), .dma (sS true 3)) 0 ∅ 0
    ∗ atPos ER ((c : Thread nD τ), .dma (sV true 0)) 0 ∅ 0)

omit [FloatOps F] in
theorem open_start (c : Dev nD) : iprop(posAt c ∗ payToks c ∗ credits c) ⊢ (opened c : sProp 𝕄) := by
  rw [posAt_eq, payToks_eq]; unfold credits opened fare due
  iintro ⟨⟨ASoF0, ASoF1, ASoF2, ASoF3, AVoF0, AVoF1, AVoF2, AVoF3, ASoT0, ASoT1, ASoT2, ASoT3, AVoT0, AVoT1, AVoT2, AVoT3, ASsF0, ASsF1, ASsF2, ASsF3, AVsF0, AVsF1, AVsF2, AVsF3, ASsT0, ASsT1, ASsT2, ASsT3, AVsT0, AVsT1, AVsT2, AVsT3, BA⟩, ⟨TSoF0, TSoF1, TSoF2, TSoF3, TVoF0, TVoF1, TVoF2, TVoF3, TSoT0, TSoT1, TSoT2, TSoT3, TVoT0, TVoT1, TVoT2, TVoT3, TSsF0, TSsF1, TSsF2, TSsF3, TVsF0, TVsF1, TVsF2, TVsF3, TSsT0, TSsT1, TSsT2, TSsT3, TVsT0, TVsT1, TVsT2, TVsT3, BF, BT⟩, BC, CVoF1, CVoF2, CVoF3, CVoT1, CVoT2, CVoT3, CVsF1, CVsF2, CVsF3, CVsT1, CVsT2, CVsT3⟩
  isplitl [BA]; · iexact BA
  isplitl [BC]; · iexact BC
  isplitl [BT]; · iexact BT
  isplitl [BF]; · iexact BF
  isplitl [TSoF0 TVoF1 ASoF0]
  · isplitl [TSoF0]; · iexact TSoF0
    isplitl [TVoF1]; · iexact TVoF1
    iexact ASoF0
  isplitl [TSoF1 TVoF2 ASoF1]
  · isplitl [TSoF1]; · iexact TSoF1
    isplitl [TVoF2]; · iexact TVoF2
    iexact ASoF1
  isplitl [TSoF2 TVoF3 ASoF2]
  · isplitl [TSoF2]; · iexact TSoF2
    isplitl [TVoF3]; · iexact TVoF3
    iexact ASoF2
  isplitl [TSoT0 TVoT1 ASoT0]
  · isplitl [TSoT0]; · iexact TSoT0
    isplitl [TVoT1]; · iexact TVoT1
    iexact ASoT0
  isplitl [TSoT1 TVoT2 ASoT1]
  · isplitl [TSoT1]; · iexact TSoT1
    isplitl [TVoT2]; · iexact TVoT2
    iexact ASoT1
  isplitl [TSoT2 TVoT3 ASoT2]
  · isplitl [TSoT2]; · iexact TSoT2
    isplitl [TVoT3]; · iexact TVoT3
    iexact ASoT2
  isplitl [TSsF0 TVsF1 ASsF0]
  · isplitl [TSsF0]; · iexact TSsF0
    isplitl [TVsF1]; · iexact TVsF1
    iexact ASsF0
  isplitl [TSsF1 TVsF2 ASsF1]
  · isplitl [TSsF1]; · iexact TSsF1
    isplitl [TVsF2]; · iexact TVsF2
    iexact ASsF1
  isplitl [TSsF2 TVsF3 ASsF2]
  · isplitl [TSsF2]; · iexact TSsF2
    isplitl [TVsF3]; · iexact TVsF3
    iexact ASsF2
  isplitl [TSsT0 TVsT1 ASsT0]
  · isplitl [TSsT0]; · iexact TSsT0
    isplitl [TVsT1]; · iexact TVsT1
    iexact ASsT0
  isplitl [TSsT1 TVsT2 ASsT1]
  · isplitl [TSsT1]; · iexact TSsT1
    isplitl [TVsT2]; · iexact TVsT2
    iexact ASsT1
  isplitl [TSsT2 TVsT3 ASsT2]
  · isplitl [TSsT2]; · iexact TSsT2
    isplitl [TVsT3]; · iexact TVsT3
    iexact ASsT2
  isplitl [CVoF1 AVoF1]
  · isplitl [CVoF1]; · iexact CVoF1
    iexact AVoF1
  isplitl [CVoF2 AVoF2]
  · isplitl [CVoF2]; · iexact CVoF2
    iexact AVoF2
  isplitl [CVoF3 AVoF3]
  · isplitl [CVoF3]; · iexact CVoF3
    iexact AVoF3
  isplitl [CVoT1 AVoT1]
  · isplitl [CVoT1]; · iexact CVoT1
    iexact AVoT1
  isplitl [CVoT2 AVoT2]
  · isplitl [CVoT2]; · iexact CVoT2
    iexact AVoT2
  isplitl [CVoT3 AVoT3]
  · isplitl [CVoT3]; · iexact CVoT3
    iexact AVoT3
  isplitl [CVsF1 AVsF1]
  · isplitl [CVsF1]; · iexact CVsF1
    iexact AVsF1
  isplitl [CVsF2 AVsF2]
  · isplitl [CVsF2]; · iexact CVsF2
    iexact AVsF2
  isplitl [CVsF3 AVsF3]
  · isplitl [CVsF3]; · iexact CVsF3
    iexact AVsF3
  isplitl [CVsT1 AVsT1]
  · isplitl [CVsT1]; · iexact CVsT1
    iexact AVsT1
  isplitl [CVsT2 AVsT2]
  · isplitl [CVsT2]; · iexact CVsT2
    iexact AVsT2
  isplitl [CVsT3 AVsT3]
  · isplitl [CVsT3]; · iexact CVsT3
    iexact AVsT3
  isplitl [ASoF3]; · iexact ASoF3
  isplitl [AVoF0]; · iexact AVoF0
  isplitl [ASoT3]; · iexact ASoT3
  isplitl [AVoT0]; · iexact AVoT0
  isplitl [ASsF3]; · iexact ASsF3
  isplitl [AVsF0]; · iexact AVsF0
  isplitl [ASsT3]; · iexact ASsT3
  iexact AVsT0

/-! ## Closing the cells -/

/-- The round each cell ends at: 1 if it was used. -/
def rnd (j : Fin 33) : ℕ := if used (6 + j.val) || decide (j.val = 32) then 1 else 0

omit [FloatOps F] in
theorem end_eq (c : Dev nD) : (bigSep Finset.univ fun j : Fin 33 => (atPos ER (kcell (c, j)) (rnd j) ∅ 0 : sProp 𝕄)) = iprop(done c (oS false 0)
    ∗ done c (oS false 1)
    ∗ done c (oS false 2)
    ∗ atPos ER ((c : Thread nD τ), .dma (oS false 3)) 0 ∅ 0
    ∗ atPos ER ((c : Thread nD τ), .dma (oV false 0)) 0 ∅ 0
    ∗ done c (oV false 1)
    ∗ done c (oV false 2)
    ∗ done c (oV false 3)
    ∗ done c (oS true 0)
    ∗ done c (oS true 1)
    ∗ done c (oS true 2)
    ∗ atPos ER ((c : Thread nD τ), .dma (oS true 3)) 0 ∅ 0
    ∗ atPos ER ((c : Thread nD τ), .dma (oV true 0)) 0 ∅ 0
    ∗ done c (oV true 1)
    ∗ done c (oV true 2)
    ∗ done c (oV true 3)
    ∗ done c (sS false 0)
    ∗ done c (sS false 1)
    ∗ done c (sS false 2)
    ∗ atPos ER ((c : Thread nD τ), .dma (sS false 3)) 0 ∅ 0
    ∗ atPos ER ((c : Thread nD τ), .dma (sV false 0)) 0 ∅ 0
    ∗ done c (sV false 1)
    ∗ done c (sV false 2)
    ∗ done c (sV false 3)
    ∗ done c (sS true 0)
    ∗ done c (sS true 1)
    ∗ done c (sS true 2)
    ∗ atPos ER ((c : Thread nD τ), .dma (sS true 3)) 0 ∅ 0
    ∗ atPos ER ((c : Thread nD τ), .dma (sV true 0)) 0 ∅ 0
    ∗ done c (sV true 1)
    ∗ done c (sV true 2)
    ∗ done c (sV true 3)
    ∗ atPos ER ((c : Thread nD τ), .reg barS) 1 ∅ 0) :=
  (bigSep_univ_eq_bigSepL [0, 1, 2, 3, 4, 5, 6, 7, 8, 9, 10, 11, 12, 13, 14, 15, 16, 17, 18, 19, 20, 21, 22, 23, 24, 25, 26, 27, 28, 29, 30, 31, 32] (by decide) (by decide) _).trans rfl

theorem duties_end (c : Dev nD) (j : Fin 33) : ∀ r, rnd j ≤ r → (ringRd (F := F) m ρ).duties (kcell (c, j)) r = ∅ := by
  intro r hr
  by_cases h : used (6 + j.val) || decide (j.val = 32)
  · rw [rnd, if_pos h] at hr; exact duties_later m ρ _ r hr
  · rw [Bool.or_eq_true, not_or] at h
    have h32 : j.val < 32 := by
      have h1 := j.isLt
      have h2 : ¬ j.val = 32 := fun e => h.2 (decide_eq_true e)
      omega
    have hs : 6 + j.val < 38 := by omega
    have hc : kcell (c, j) = ((c : Thread nD τ), SemLoc.dma ⟨6 + j.val, hs⟩) := by
      show ((c : Thread nD τ), csem j) = _
      unfold csem; rw [dif_pos h32]; rfl
    rw [hc]
    exact duties_unused m ρ c _ (Bool.eq_false_iff.mpr h.1) r (Nat.zero_le r)

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem close_one (K : Dev nD × Fin 33 → ℕ) (c : Dev nD) (j : Fin 33) :
    iprop(records m ρ K ∗ atPos ER (kcell (c, j)) (rnd j) ∅ 0) ⊢ (|={Set.univ}=> semVal (kcell (c, j)) 0 : sProp 𝕄) := by
  iintro ⟨#HR, Hat⟩
  imod (Rounds.cell_close ER (ringRd m ρ) (Set.mem_univ (K (c, j))) (fun h => h) (R := rnd j) (duties_end m ρ c j)) $$ [Hat] with Hz
  · isplitr; · iapply (inv_at m ρ K (c, j)); iexact HR
    iexact Hat
  imodintro; iexact Hz

def semsZero (c : Dev nD) : sProp 𝕄 := bigSep Finset.univ fun j : Fin 33 => semVal (kcell (c, j)) 0

theorem close_all (K : Dev nD × Fin 33 → ℕ) (c : Dev nD) :
    iprop(records m ρ K ∗ bigSep Finset.univ fun j : Fin 33 => atPos ER (kcell (c, j)) (rnd j) ∅ 0) ⊢ (|={Set.univ}=> semsZero c : sProp 𝕄) :=
  (bigSep_with_persistent fun j _ => close_one m ρ K c j).trans (bigSep_fupd _ _)

/-! ## The buffers, whole -/

/-- The four scratch buffers, at some contents. -/
def scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

omit [FloatOps F] in
theorem scr0_eq (c : Dev nD) (f : Buf (Elt F) ((c : Thread nD τ).loc cc0_scratch0)) :
    (((c : Thread nD τ).loc cc0_scratch0) ↦{fullShare} f : sProp 𝕄) = oWh false fullShare c f := by
  have h : (Memref.whole cc0_scratch0 : Memref sig .tc .vmem _ .f32).view.set = Finset.univ := View.set_whole _
  show _ = (((c : Thread nD τ).loc cc0_scratch0) ↦[(Memref.whole cc0_scratch0 : Memref sig .tc .vmem _ .f32).view.set]{fullShare} f : sProp 𝕄)
  rw [h]
omit [FloatOps F] in
theorem scr1_eq (c : Dev nD) (f : Buf (Elt F) ((c : Thread nD τ).loc cc0_scratch1)) :
    (((c : Thread nD τ).loc cc0_scratch1) ↦{fullShare} f : sProp 𝕄) = oWh true fullShare c f := by
  have h : (Memref.whole cc0_scratch1 : Memref sig .tc .vmem _ .f32).view.set = Finset.univ := View.set_whole _
  show _ = (((c : Thread nD τ).loc cc0_scratch1) ↦[(Memref.whole cc0_scratch1 : Memref sig .tc .vmem _ .f32).view.set]{fullShare} f : sProp 𝕄)
  rw [h]
omit [FloatOps F] in
theorem scr2_eq (c : Dev nD) (f : Buf (Elt F) ((c : Thread nD τ).loc cc0_scratch2)) :
    (((c : Thread nD τ).loc cc0_scratch2) ↦{fullShare} f : sProp 𝕄) = sWh false fullShare c f := by
  have h : (Memref.whole cc0_scratch2 : Memref sig .tc .vmem _ .f32).view.set = Finset.univ := View.set_whole _
  show _ = (((c : Thread nD τ).loc cc0_scratch2) ↦[(Memref.whole cc0_scratch2 : Memref sig .tc .vmem _ .f32).view.set]{fullShare} f : sProp 𝕄)
  rw [h]
omit [FloatOps F] in
theorem scr3_eq (c : Dev nD) (f : Buf (Elt F) ((c : Thread nD τ).loc cc0_scratch3)) :
    (((c : Thread nD τ).loc cc0_scratch3) ↦{fullShare} f : sProp 𝕄) = sWh true fullShare c f := by
  have h : (Memref.whole cc0_scratch3 : Memref sig .tc .vmem _ .f32).view.set = Finset.univ := View.set_whole _
  show _ = (((c : Thread nD τ).loc cc0_scratch3) ↦[(Memref.whole cc0_scratch3 : Memref sig .tc .vmem _ .f32).view.set]{fullShare} f : sProp 𝕄)
  rw [h]

/-- Opened into slots: slot 0 of each, and those lent. -/
theorem scr_open (c : Dev nD) : scr c ⊢ (iprop(oAny false 0 c ∗ oAny true 0 c ∗ sAny false 0 c ∗ sAny true 0 c ∗ lent false c ∗ lent true c) : sProp 𝕄) := by
  unfold scr lent oAny sAny
  iintro ⟨⟨%f0, H0⟩, ⟨%f1, H1⟩, ⟨%f2, H2⟩, ⟨%f3, H3⟩⟩
  ihave H0' := (Entails.of_eq ((scr0_eq c f0).trans (oWh_slots false fullShare c f0))) $$ H0
  icases H0' with ⟨H00, H01, H02, H03⟩
  ihave H1' := (Entails.of_eq ((scr1_eq c f1).trans (oWh_slots true fullShare c f1))) $$ H1
  icases H1' with ⟨H10, H11, H12, H13⟩
  ihave H2' := (Entails.of_eq ((scr2_eq c f2).trans (sWh_slots false fullShare c f2))) $$ H2
  icases H2' with ⟨H20, H21, H22, H23⟩
  ihave H3' := (Entails.of_eq ((scr3_eq c f3).trans (sWh_slots true fullShare c f3))) $$ H3
  icases H3' with ⟨H30, H31, H32, H33⟩
  isplitl [H00]; · iexists f0; iexact H00
  isplitl [H10]; · iexists f1; iexact H10
  isplitl [H20]; · iexists f2; iexact H20
  isplitl [H30]; · iexists f3; iexact H30
  isplitl [H01 H02 H03 H21 H22 H23]
  · isplitl [H01]; · iexists f0; iexact H01
    isplitl [H02]; · iexists f0; iexact H02
    isplitl [H03]; · iexists f0; iexact H03
    isplitl [H21]; · iexists f2; iexact H21
    isplitl [H22]; · iexists f2; iexact H22
    iexists f2; iexact H23
  isplitl [H11]; · iexists f1; iexact H11
  isplitl [H12]; · iexists f1; iexact H12
  isplitl [H13]; · iexists f1; iexact H13
  isplitl [H31]; · iexists f3; iexact H31
  isplitl [H32]; · iexists f3; iexact H32
  iexists f3; iexact H33

/-- A buffer whole again, from what the merge read of it and the halves that came back. -/
theorem o_join (b : Bool) (c : Dev nD) :
    iprop(oLeft m ρ b c ∗ oPts b 0 fullShare.right c (oFull m ρ b c) ∗ oPts b 1 fullShare.right c (oFull m ρ b c) ∗ oPts b 2 fullShare.right c (oFull m ρ b c))
      ⊢ oWh b fullShare c (oFull m ρ b c) := by
  rw [oWh_slots]; unfold oLeft
  iintro ⟨⟨L0, L1, L2, H3⟩, R0, R1, R2⟩
  isplitl [L0 R0]
  · iapply (oPts_halves b 0 c (oFull m ρ b c)).2; isplitl [L0]; · iexact L0
    iexact R0
  isplitl [L1 R1]
  · iapply (oPts_halves b 1 c (oFull m ρ b c)).2; isplitl [L1]; · iexact L1
    iexact R1
  isplitl [L2 R2]
  · iapply (oPts_halves b 2 c (oFull m ρ b c)).2; isplitl [L2]; · iexact L2
    iexact R2
  iexact H3

/-- A buffer whole again, from what the merge read of it and the halves that came back. -/
theorem s_join (b : Bool) (c : Dev nD) :
    iprop(sLeft m ρ b c ∗ sPts b 0 fullShare.right c (sFull m ρ b c) ∗ sPts b 1 fullShare.right c (sFull m ρ b c) ∗ sPts b 2 fullShare.right c (sFull m ρ b c))
      ⊢ sWh b fullShare c (sFull m ρ b c) := by
  rw [sWh_slots]; unfold sLeft
  iintro ⟨⟨L0, L1, L2, H3⟩, R0, R1, R2⟩
  isplitl [L0 R0]
  · iapply (sPts_halves b 0 c (sFull m ρ b c)).2; isplitl [L0]; · iexact L0
    iexact R0
  isplitl [L1 R1]
  · iapply (sPts_halves b 1 c (sFull m ρ b c)).2; isplitl [L1]; · iexact L1
    iexact R1
  isplitl [L2 R2]
  · iapply (sPts_halves b 2 c (sFull m ρ b c)).2; isplitl [L2]; · iexact L2
    iexact R2
  iexact H3

theorem scr_close (c : Dev nD) :
    iprop(oWh false fullShare c (oFull m ρ false c) ∗ oWh true fullShare c (oFull m ρ true c) ∗ sWh false fullShare c (sFull m ρ false c) ∗ sWh true fullShare c (sFull m ρ true c))
      ⊢ scr c := by
  unfold scr
  iintro ⟨H0, H1, H2, H3⟩
  isplitl [H0]; · iexists (oFull m ρ false c); iapply (Entails.of_eq (scr0_eq c (oFull m ρ false c)).symm); iexact H0
  isplitl [H1]; · iexists (oFull m ρ true c); iapply (Entails.of_eq (scr1_eq c (oFull m ρ true c)).symm); iexact H1
  isplitl [H2]; · iexists (sFull m ρ false c); iapply (Entails.of_eq (scr2_eq c (sFull m ρ false c)).symm); iexact H2
  iexists (sFull m ρ true c); iapply (Entails.of_eq (scr3_eq c (sFull m ρ true c)).symm); iexact H3

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What the launch deals a device: the cells' records, its positions and the tokens it pays with. -/
def ghost (K : Dev nD × Fin 33 → ℕ) (c : Dev nD) : sProp 𝕄 := iprop(records m ρ K ∗ posAt c ∗ payToks c)
def start (c : Dev nD) : sProp 𝕄 := iprop((∃ K, ghost m ρ K c) ∗ credits c ∗ levAts L lv)
def Φ₀ (c : Dev nD) : sProp 𝕄 := iprop(start m ρ c ∗ scr c)
def Φ₁ (c : Dev nD) : sProp 𝕄 := iprop(scr c ∗ semsZero c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => qstg m ρ c
    | ⟨2, _⟩ => wstg m ρ c
    | ⟨3, _⟩ => kstg m ρ c
    | ⟨4, _⟩ => vstg m ρ c
    | ⟨5, _⟩ => outAt m ρ c
  Φ t := match t with
    | ⟨0, _⟩ => Φ₀ m ρ c
    | ⟨_ + 1, _⟩ => Φ₁ c
  q _ := fullShare
  owed t := match t with
    | ⟨0, _⟩ => ledger c steps
    | ⟨_ + 1, _⟩ => 0

end Cert.KernelIdeal.Run

end
-- ==== Proof.KernelIdeal.PartsA.lean ====
/-
# The parts that compute

Each part of the body that loads and stores, from the buffers it needs to what it leaves in them and the values it returns.
-/
module

public import proofs.«01_k».proof.Proof.KernelIdeal.Access
public import proofs.«01_k».proof.Proof.Gen.KernelIdeal.Skeleton

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The staging buffers' loads, named -/

theorem ldX_eq (c : Dev nD) : (Memref.whole cc0_stg0_0 : Memref sig .tc .vmem S1x512x1024 .f32).view.readAt (Elt F)
    (Rect.unit (s := S1x512x1024) ![0, 0, 0] S1x512x1024.size inb_S1x512x1024_S1x512x1024_0_0_0).toLoadRect (xstg m ρ c) = ldX m ρ c := rfl
theorem ldQ_eq (c : Dev nD) : (Memref.whole cc0_stg1_0 : Memref sig .tc .vmem S1024x1024 .f32).view.readAt (Elt F)
    (Rect.unit (s := S1024x1024) ![0, 0] S1024x1024.size inb_S1024x1024_S1024x1024_0_0).toLoadRect (qstg m ρ c) = ldQ m ρ c := rfl
theorem ldW_eq (c : Dev nD) : (Memref.whole cc0_stg2_0 : Memref sig .tc .vmem S1024x1024 .f32).view.readAt (Elt F)
    (Rect.unit (s := S1024x1024) ![0, 0] S1024x1024.size inb_S1024x1024_S1024x1024_0_0).toLoadRect (wstg m ρ c) = ldW m ρ c := rfl
theorem ldK0_eq (c : Dev nD) : (Memref.whole cc0_stg3_0 : Memref sig .tc .vmem S1x2048x2x128 .f32).view.readAt (Elt F)
    (Rect.unit (s := S1x2048x2x128) ![0, 0, 0, 0] S1x2048x1x128.size inb_S1x2048x2x128_S1x2048x1x128_0_0_0_0).toLoadRect (kstg m ρ c) = ldK0 m ρ c := rfl
theorem ldK1_eq (c : Dev nD) : (Memref.whole cc0_stg3_0 : Memref sig .tc .vmem S1x2048x2x128 .f32).view.readAt (Elt F)
    (Rect.unit (s := S1x2048x2x128) ![0, 0, 1, 0] S1x2048x1x128.size inb_S1x2048x2x128_S1x2048x1x128_0_0_1_0).toLoadRect (kstg m ρ c) = ldK1 m ρ c := rfl
theorem ldV0_eq (c : Dev nD) : (Memref.whole cc0_stg4_0 : Memref sig .tc .vmem S1x2048x2x128 .f32).view.readAt (Elt F)
    (Rect.unit (s := S1x2048x2x128) ![0, 0, 0, 0] S1x2048x1x128.size inb_S1x2048x2x128_S1x2048x1x128_0_0_0_0).toLoadRect (vstg m ρ c) = ldV0 m ρ c := rfl
theorem ldV1_eq (c : Dev nD) : (Memref.whole cc0_stg4_0 : Memref sig .tc .vmem S1x2048x2x128 .f32).view.readAt (Elt F)
    (Rect.unit (s := S1x2048x2x128) ![0, 0, 1, 0] S1x2048x1x128.size inb_S1x2048x2x128_S1x2048x1x128_0_0_1_0).toLoadRect (vstg m ρ c) = ldV1 m ρ c := rfl

set_option maxHeartbeats 1600000 in
theorem part2 (c : Dev nD)   {Kt : (Σ' (v37 : FVec F S512x8x128 .f32) (v45 : FVec F S512 .f32) (v50 : FVec F S512 .f32) (v51 : FVec F S512x128 .f32) (v55 : FVec F S2048x128 .f32) (v59 : FVec F S512 .f32), FVec F S512x2048 .f32) → sProp 𝕄} :
    iprop((((c : Thread nD τ).loc cc0_stg0_0) ↦{fullShare} xstg m ρ c)
        ∗ (((c : Thread nD τ).loc cc0_stg1_0) ↦{fullShare} qstg m ρ c)
        ∗ (((c : Thread nD τ).loc cc0_stg3_0) ↦{fullShare} kstg m ρ c)
        ∗ (((c : Thread nD τ).loc cc0_stg4_0) ↦{fullShare} vstg m ρ c)
        ∗ (((((c : Thread nD τ).loc cc0_stg0_0) ↦{fullShare} xstg m ρ c)
          ∗ (((c : Thread nD τ).loc cc0_stg1_0) ↦{fullShare} qstg m ρ c)
          ∗ (((c : Thread nD τ).loc cc0_stg3_0) ↦{fullShare} kstg m ρ c)
          ∗ (((c : Thread nD τ).loc cc0_stg4_0) ↦{fullShare} vstg m ρ c)) -∗ Kt ⟨k0_pay1 (ldX m ρ c) (ldQ m ρ c), k0_pay3 (ldX m ρ c) (ldQ m ρ c) (ldK0 m ρ c), k0_pay5 (ldX m ρ c) (ldQ m ρ c) (ldK0 m ρ c), k0_pay6 (ldX m ρ c) (ldQ m ρ c) (ldK0 m ρ c) (ldV0 m ρ c), k0_pay7 (ldV0 m ρ c), k0_pay9 (ldX m ρ c) (ldQ m ρ c) (ldK0 m ρ c), k0_pay10 (ldX m ρ c) (ldQ m ρ c) (ldK0 m ρ c)⟩))
      ⊢ wp frame (wpE (defs₀ (F := F)) 𝒱₀ (c : Thread nD τ) none) Set.univ
    (k0_part2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 ) Kt := by
  simp only [k0_part2_eq_skeleton]; unfold k0_part2_skel
  simp only [Prog.lift, Prog.bind_op, Prog.bind_ret, Prog.pure_eq_ret, Prog.bind_assoc]
  iintro ⟨HGX, HGQ, HGK, HGV, Hk⟩
  iapply (wp_load 𝒱₀ (c : Thread nD τ) none Set.univ (m := (Memref.whole cc0_stg0_0)) (Finset.subset_univ _)) $$ HGX; iintro HGX
  rw [ldX_eq]
  iapply (wp_load 𝒱₀ (c : Thread nD τ) none Set.univ (m := (Memref.whole cc0_stg1_0)) (Finset.subset_univ _)) $$ HGQ; iintro HGQ
  rw [ldQ_eq]
  iapply (wp_load 𝒱₀ (c : Thread nD τ) none Set.univ (m := (Memref.whole cc0_stg3_0)) (Finset.subset_univ _)) $$ HGK; iintro HGK
  rw [ldK0_eq]
  iapply (wp_load 𝒱₀ (c : Thread nD τ) none Set.univ (m := (Memref.whole cc0_stg4_0)) (Finset.subset_univ _)) $$ HGV; iintro HGV
  rw [ldV0_eq]
  iapply (wp_load 𝒱₀ (c : Thread nD τ) none Set.univ (m := (Memref.whole cc0_stg3_0)) (Finset.subset_univ _)) $$ HGK; iintro HGK
  rw [ldK0_eq]
  iapply (wp_load 𝒱₀ (c : Thread nD τ) none Set.univ (m := (Memref.whole cc0_stg4_0)) (Finset.subset_univ _)) $$ HGV; iintro HGV
  rw [ldV0_eq]
  rw [wp_ret]; imodintro
  iapply Hk
  isplitl [HGX]; · iexact HGX
  isplitl [HGQ]; · iexact HGQ
  isplitl [HGK]; · iexact HGK
  iexact HGV

set_option maxHeartbeats 1600000 in
theorem part3 (c : Dev nD) (v37 : FVec F S512x8x128 .f32) (v55 : FVec F S2048x128 .f32) (v62 : FVec F S512x2048 .f32)  {Kt : (Σ' (v64 : FVec F S512 .f32) (v65 : FVec F S512x128 .f32) (v73 : FVec F S512 .f32) (v78 : FVec F S512 .f32) (v79 : FVec F S512x128 .f32) (v87 : FVec F S512 .f32) (v92 : FVec F S512 .f32), FVec F S512x128 .f32) → sProp 𝕄} :
    iprop((((c : Thread nD τ).loc cc0_stg3_0) ↦{fullShare} kstg m ρ c)
        ∗ (((c : Thread nD τ).loc cc0_stg4_0) ↦{fullShare} vstg m ρ c)
        ∗ (((((c : Thread nD τ).loc cc0_stg3_0) ↦{fullShare} kstg m ρ c)
          ∗ (((c : Thread nD τ).loc cc0_stg4_0) ↦{fullShare} vstg m ρ c)) -∗ Kt ⟨k0_pay12 v62, k0_pay13 v55 v62, k0_pay15 v37 (ldK0 m ρ c), k0_pay17 v37 (ldK0 m ρ c), k0_pay18 v37 (ldK0 m ρ c) (ldV0 m ρ c), k0_pay20 v37 (ldK0 m ρ c), k0_pay22 v37 (ldK0 m ρ c), k0_pay23 v37 (ldK0 m ρ c) (ldV0 m ρ c)⟩))
      ⊢ wp frame (wpE (defs₀ (F := F)) 𝒱₀ (c : Thread nD τ) none) Set.univ
    (k0_part3 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 v37 v55 v62) Kt := by
  simp only [k0_part3_eq_skeleton]; unfold k0_part3_skel
  simp only [Prog.lift, Prog.bind_op, Prog.bind_ret, Prog.pure_eq_ret, Prog.bind_assoc]
  iintro ⟨HGK, HGV, Hk⟩
  iapply (wp_load 𝒱₀ (c : Thread nD τ) none Set.univ (m := (Memref.whole cc0_stg3_0)) (Finset.subset_univ _)) $$ HGK; iintro HGK
  rw [ldK0_eq]
  iapply (wp_load 𝒱₀ (c : Thread nD τ) none Set.univ (m := (Memref.whole cc0_stg4_0)) (Finset.subset_univ _)) $$ HGV; iintro HGV
  rw [ldV0_eq]
  iapply (wp_load 𝒱₀ (c : Thread nD τ) none Set.univ (m := (Memref.whole cc0_stg3_0)) (Finset.subset_univ _)) $$ HGK; iintro HGK
  rw [ldK0_eq]
  iapply (wp_load 𝒱₀ (c : Thread nD τ) none Set.univ (m := (Memref.whole cc0_stg4_0)) (Finset.subset_univ _)) $$ HGV; iintro HGV
  rw [ldV0_eq]
  rw [wp_ret]; imodintro
  iapply Hk
  isplitl [HGK]; · iexact HGK
  iexact HGV

set_option maxHeartbeats 1600000 in
theorem part4 (c : Dev nD) (v37 : FVec F S512x8x128 .f32)  {Kt : (Σ' (v101 : FVec F S512 .f32) (v106 : FVec F S512 .f32) (v107 : FVec F S512x128 .f32) (v115 : FVec F S512 .f32) (v120 : FVec F S512 .f32) (v121 : FVec F S512x128 .f32) (v123 : FVec F S2048x128 .f32), Vec F S1x2048x1x128 .f32) → sProp 𝕄} :
    iprop((((c : Thread nD τ).loc cc0_stg3_0) ↦{fullShare} kstg m ρ c)
        ∗ (((c : Thread nD τ).loc cc0_stg4_0) ↦{fullShare} vstg m ρ c)
        ∗ (((((c : Thread nD τ).loc cc0_stg3_0) ↦{fullShare} kstg m ρ c)
          ∗ (((c : Thread nD τ).loc cc0_stg4_0) ↦{fullShare} vstg m ρ c)) -∗ Kt ⟨k0_pay25 v37 (ldK1 m ρ c), k0_pay27 v37 (ldK1 m ρ c), k0_pay28 v37 (ldK1 m ρ c) (ldV1 m ρ c), k0_pay30 v37 (ldK1 m ρ c), k0_pay32 v37 (ldK1 m ρ c), k0_pay33 v37 (ldK1 m ρ c) (ldV1 m ρ c), k0_pay34 (ldK1 m ρ c), (ldV1 m ρ c)⟩))
      ⊢ wp frame (wpE (defs₀ (F := F)) 𝒱₀ (c : Thread nD τ) none) Set.univ
    (k0_part4 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 v37) Kt := by
  simp only [k0_part4_eq_skeleton]; unfold k0_part4_skel
  simp only [Prog.lift, Prog.bind_op, Prog.bind_ret, Prog.pure_eq_ret, Prog.bind_assoc]
  iintro ⟨HGK, HGV, Hk⟩
  iapply (wp_load 𝒱₀ (c : Thread nD τ) none Set.univ (m := (Memref.whole cc0_stg3_0)) (Finset.subset_univ _)) $$ HGK; iintro HGK
  rw [ldK1_eq]
  iapply (wp_load 𝒱₀ (c : Thread nD τ) none Set.univ (m := (Memref.whole cc0_stg4_0)) (Finset.subset_univ _)) $$ HGV; iintro HGV
  rw [ldV1_eq]
  iapply (wp_load 𝒱₀ (c : Thread nD τ) none Set.univ (m := (Memref.whole cc0_stg3_0)) (Finset.subset_univ _)) $$ HGK; iintro HGK
  rw [ldK1_eq]
  iapply (wp_load 𝒱₀ (c : Thread nD τ) none Set.univ (m := (Memref.whole cc0_stg4_0)) (Finset.subset_univ _)) $$ HGV; iintro HGV
  rw [ldV1_eq]
  iapply (wp_load 𝒱₀ (c : Thread nD τ) none Set.univ (m := (Memref.whole cc0_stg3_0)) (Finset.subset_univ _)) $$ HGK; iintro HGK
  rw [ldK1_eq]
  iapply (wp_load 𝒱₀ (c : Thread nD τ) none Set.univ (m := (Memref.whole cc0_stg4_0)) (Finset.subset_univ _)) $$ HGV; iintro HGV
  rw [ldV1_eq]
  rw [wp_ret]; imodintro
  iapply Hk
  isplitl [HGK]; · iexact HGK
  iexact HGV

set_option maxHeartbeats 1600000 in
theorem part5 (c : Dev nD) (v37 : FVec F S512x8x128 .f32) (v45 : FVec F S512 .f32) (v50 : FVec F S512 .f32) (v51 : FVec F S512x128 .f32) (v59 : FVec F S512 .f32) (v65 : FVec F S512x128 .f32) (v73 : FVec F S512 .f32) (v79 : FVec F S512x128 .f32) (v87 : FVec F S512 .f32) (v93 : FVec F S512x128 .f32) (v101 : FVec F S512 .f32) (v107 : FVec F S512x128 .f32) (v115 : FVec F S512 .f32) (v121 : FVec F S512x128 .f32) (v123 : FVec F S2048x128 .f32) (v124 : Vec F S1x2048x1x128 .f32)  {Kt : (Σ' (v134 : FVec F S512 .f32) (v148 : FVec F S512 .f32) (v158 : FVec F S512x8x128 .f32) (v167 : FVec F S512x8 .f32), FVec F S512x1 .f32) → sProp 𝕄} :
    iprop((((c : Thread nD τ).loc cc0_stg3_0) ↦{fullShare} kstg m ρ c)
        ∗ (((c : Thread nD τ).loc cc0_stg4_0) ↦{fullShare} vstg m ρ c)
        ∗ (((((c : Thread nD τ).loc cc0_stg3_0) ↦{fullShare} kstg m ρ c)
          ∗ (((c : Thread nD τ).loc cc0_stg4_0) ↦{fullShare} vstg m ρ c)) -∗ Kt ⟨k0_pay38 v37 v123, k0_pay42 v37 (ldK1 m ρ c), k0_pay43 v37 v51 v65 v79 v93 v107 v121 v123 v124 (ldK1 m ρ c) (ldV1 m ρ c), k0_pay44 v37 v45 v59 v73 v87 v101 v115 v123 (ldK1 m ρ c), k0_pay45 v50⟩))
      ⊢ wp frame (wpE (defs₀ (F := F)) 𝒱₀ (c : Thread nD τ) none) Set.univ
    (k0_part5 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 v37 v45 v50 v51 v59 v65 v73 v79 v87 v93 v101 v107 v115 v121 v123 v124) Kt := by
  simp only [k0_part5_eq_skeleton]; unfold k0_part5_skel
  simp only [Prog.lift, Prog.bind_op, Prog.bind_ret, Prog.pure_eq_ret, Prog.bind_assoc]
  iintro ⟨HGK, HGV, Hk⟩
  iapply (wp_load 𝒱₀ (c : Thread nD τ) none Set.univ (m := (Memref.whole cc0_stg3_0)) (Finset.subset_univ _)) $$ HGK; iintro HGK
  rw [ldK1_eq]
  iapply (wp_load 𝒱₀ (c : Thread nD τ) none Set.univ (m := (Memref.whole cc0_stg4_0)) (Finset.subset_univ _)) $$ HGV; iintro HGV
  rw [ldV1_eq]
  rw [wp_ret]; imodintro
  iapply Hk
  isplitl [HGK]; · iexact HGK
  iexact HGV

set_option maxHeartbeats 1600000 in
theorem part6 (c : Dev nD) (v64 : FVec F S512 .f32) (v78 : FVec F S512 .f32) (v92 : FVec F S512 .f32) (v106 : FVec F S512 .f32) (v120 : FVec F S512 .f32) (v134 : FVec F S512 .f32) (v148 : FVec F S512 .f32) (v158 : FVec F S512x8x128 .f32) (v167 : FVec F S512x8 .f32) (v168 : FVec F S512x1 .f32) (hoF : k0_pay47 v158 = oOwn m ρ false c) (hoT : k0_pay48 v158 = oOwn m ρ true c) (hmF : k0_pay49 v167 = mOwn m ρ false c) (hlF : k0_pay50 v64 v78 v92 v106 v120 v134 v148 v168 = lOwn m ρ false c) (hmT : k0_pay52 v167 = mOwn m ρ true c) {Kt : (FVec F S256x8 .f32) → sProp 𝕄} :
    iprop(oAny false 0 c
        ∗ oAny true 0 c
        ∗ sAny false 0 c
        ∗ sAny true 0 c
        ∗ ((oPts false 0 fullShare c (oFull m ρ false c)
          ∗ oPts true 0 fullShare c (oFull m ρ true c)
          ∗ sPts false 0 fullShare c (sFull m ρ false c)
          ∗ sMid m ρ true c) -∗ Kt (k0_pay51 v64 v78 v92 v106 v120 v134 v148 v168)))
      ⊢ wp frame (wpE (defs₀ (F := F)) 𝒱₀ (c : Thread nD τ) none) Set.univ
    (k0_part6 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 v64 v78 v92 v106 v120 v134 v148 v158 v167 v168) Kt := by
  simp only [k0_part6_eq_skeleton]; unfold k0_part6_skel
  simp only [Prog.lift, Prog.bind_op, Prog.bind_ret, Prog.pure_eq_ret, Prog.bind_assoc]
  iintro ⟨HBoF, HBoT, HBsF, HBsT, Hk⟩
  iapply (wp_ld_o0 c false) $$ HBoF; iintro %_ HBoF
  iapply (wp_st_o0 m ρ c false hoF) $$ HBoF; iintro HPoF0
  iapply (wp_ld_o0 c true) $$ HBoT; iintro %_ HBoT
  iapply (wp_st_o0 m ρ c true hoT) $$ HBoT; iintro HPoT0
  iapply (wp_ld_sM c false) $$ HBsF; iintro %_ HBsF
  iapply (wp_st_sM m ρ c false hmF) $$ HBsF; iintro HMF
  iapply (wp_ld_sL m ρ c false) $$ HMF; iintro %_ HMF
  iapply (wp_st_sL m ρ c false hlF) $$ HMF; iintro HPsF0
  iapply (wp_ld_sM c true) $$ HBsT; iintro %_ HBsT
  iapply (wp_st_sM m ρ c true hmT) $$ HBsT; iintro HMT
  iapply (wp_ld_sL m ρ c true) $$ HMT; iintro %_ HMT
  rw [wp_ret]; imodintro
  iapply Hk
  isplitl [HPoF0]; · iexact HPoF0
  isplitl [HPoT0]; · iexact HPoT0
  isplitl [HPsF0]; · iexact HPsF0
  iexact HMT

set_option maxHeartbeats 1600000 in
theorem part16 (c : Dev nD) (v417 : Vec F S4x256x8x128 .f32) (v418 : Vec F S4x2x256x8 .f32) (g : Buf (Elt F) ((c : Thread nD τ).loc cc0_stg5_0))  {Kt : (Σ' (v449 : FVec F S4x256x8 .f32) (v454 : FVec F S4x256x8 .f32), FVec F S256x8x128 .f32) → sProp 𝕄} :
    iprop((((c : Thread nD τ).loc cc0_stg2_0) ↦{fullShare} wstg m ρ c)
        ∗ (((c : Thread nD τ).loc cc0_stg5_0) ↦{fullShare} g)
        ∗ oPts true 0 fullShare.left c (oFull m ρ true c)
        ∗ oPts true 1 fullShare.left c (oFull m ρ true c)
        ∗ oPts true 2 fullShare.left c (oFull m ρ true c)
        ∗ oPts true 3 fullShare c (oFull m ρ true c)
        ∗ sPts true 0 fullShare.left c (sFull m ρ true c)
        ∗ sPts true 1 fullShare.left c (sFull m ρ true c)
        ∗ sPts true 2 fullShare.left c (sFull m ρ true c)
        ∗ sPts true 3 fullShare c (sFull m ρ true c)
        ∗ (((((c : Thread nD τ).loc cc0_stg2_0) ↦{fullShare} wstg m ρ c)
          ∗ (((c : Thread nD τ).loc cc0_stg5_0) ↦{fullShare} (fM.access fR0 : View sig .tc _ _ _).write (Elt F) g (k0_pay54 v417 v418 (ldW m ρ c)) Finset.univ)
          ∗ oLeft m ρ true c
          ∗ sLeft m ρ true c) -∗ Kt ⟨k0_pay55 (sVec m ρ true c), k0_pay56 (sVec m ρ true c), k0_pay57 (oVec m ρ true c) (sVec m ρ true c)⟩))
      ⊢ wp frame (wpE (defs₀ (F := F)) 𝒱₀ (c : Thread nD τ) none) Set.univ
    (k0_part16 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 v417 v418) Kt := by
  simp only [k0_part16_eq_skeleton]; unfold k0_part16_skel
  simp only [Prog.lift, Prog.bind_op, Prog.bind_ret, Prog.pure_eq_ret, Prog.bind_assoc]
  iintro ⟨HGW, HGO, HLoT0, HLoT1, HLoT2, HPoT3, HLsT0, HLsT1, HLsT2, HPsT3, Hk⟩
  iapply (wp_load 𝒱₀ (c : Thread nD τ) none Set.univ (m := (Memref.whole cc0_stg2_0)) (Finset.subset_univ _)) $$ HGW; iintro HGW
  rw [ldW_eq]
  iapply (wp_load 𝒱₀ (c : Thread nD τ) none Set.univ (m := (Memref.whole cc0_stg5_0)) (Finset.subset_univ _)) $$ HGO; iintro HGO
  iapply (wp_store 𝒱₀ (c : Thread nD τ) none Set.univ (m := (Memref.whole cc0_stg5_0)) (r := fR0) (Mk := Finset.univ) (Finset.subset_univ _)) $$ HGO; iintro HGO
  ihave HWo := (Entails.of_eq (show iprop(oPts true 0 fullShare.left c (oFull m ρ true c) ∗ oPts true 1 fullShare.left c (oFull m ρ true c) ∗ oPts true 2 fullShare.left c (oFull m ρ true c) ∗ oPts true 3 fullShare c (oFull m ρ true c)) = oLeft m ρ true c from rfl)) $$ [HLoT0 HLoT1 HLoT2 HPoT3]
  · isplitl [HLoT0]; · iexact HLoT0
    isplitl [HLoT1]; · iexact HLoT1
    isplitl [HLoT2]; · iexact HLoT2
    iexact HPoT3
  iapply (wp_ld_o m ρ c true) $$ HWo; iintro HWoT
  ihave HWs := (Entails.of_eq (show iprop(sPts true 0 fullShare.left c (sFull m ρ true c) ∗ sPts true 1 fullShare.left c (sFull m ρ true c) ∗ sPts true 2 fullShare.left c (sFull m ρ true c) ∗ sPts true 3 fullShare c (sFull m ρ true c)) = sLeft m ρ true c from rfl)) $$ [HLsT0 HLsT1 HLsT2 HPsT3]
  · isplitl [HLsT0]; · iexact HLsT0
    isplitl [HLsT1]; · iexact HLsT1
    isplitl [HLsT2]; · iexact HLsT2
    iexact HPsT3
  iapply (wp_ld_s m ρ c true) $$ HWs; iintro HWsT
  rw [wp_ret]; imodintro
  iapply Hk
  isplitl [HGW]; · iexact HGW
  isplitl [HGO]; · iexact HGO
  isplitl [HWoT]; · iexact HWoT
  iexact HWsT

set_option maxHeartbeats 1600000 in
theorem part17 (K : Dev nD × Fin 33 → ℕ) (c : Dev nD) (v449 v454 : FVec F S4x256x8 .f32) (v458 : FVec F S256x8x128 .f32) (g : Buf (Elt F) ((c : Thread nD τ).loc cc0_stg5_0))  {Kt : (PUnit) → sProp 𝕄} :
    iprop(records m ρ K
        ∗ levAts L lv
        ∗ (((c : Thread nD τ).loc cc0_stg2_0) ↦{fullShare} wstg m ρ c)
        ∗ (((c : Thread nD τ).loc cc0_stg5_0) ↦{fullShare} g)
        ∗ due c (oS false 0)
        ∗ ow c (steps.drop 14)
        ∗ due c (oS false 1)
        ∗ (((((c : Thread nD τ).loc cc0_stg2_0) ↦{fullShare} wstg m ρ c)
          ∗ (((c : Thread nD τ).loc cc0_stg5_0) ↦{fullShare} (fM.access fR1 : View sig .tc _ _ _).write (Elt F) g (k0_pay58 v449 v454 v458 (ldW m ρ c)) Finset.univ)
          ∗ oPts false 0 fullShare.right c (oFull m ρ false c)
          ∗ done c (oS false 0)
          ∗ oPts false 1 fullShare.right c (oFull m ρ false c)
          ∗ done c (oS false 1)
          ∗ ow c (steps.drop 14)) -∗ Kt ⟨⟩))
      ⊢ wp frame (wpE (defs₀ (F := F)) 𝒱₀ (c : Thread nD τ) none) Set.univ
    (k0_part17 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 v449 v454 v458) Kt := by
  simp only [k0_part17_eq_skeleton]; unfold k0_part17_skel
  simp only [Prog.lift, Prog.bind_op, Prog.bind_ret, Prog.pure_eq_ret, Prog.bind_assoc]
  iintro ⟨#HR, #HL, HGW, HGO, HDSoF0, HOW, HDSoF1, Hk⟩
  iapply (wp_load 𝒱₀ (c : Thread nD τ) none Set.univ (m := (Memref.whole cc0_stg2_0)) (Finset.subset_univ _)) $$ HGW; iintro HGW
  rw [ldW_eq]
  iapply (wp_load 𝒱₀ (c : Thread nD τ) none Set.univ (m := (Memref.whole cc0_stg5_0)) (Finset.subset_univ _)) $$ HGO; iintro HGO
  iapply (wp_store 𝒱₀ (c : Thread nD τ) none Set.univ (m := (Memref.whole cc0_stg5_0)) (r := fR1) (Mk := Finset.univ) (Finset.subset_univ _)) $$ HGO; iintro HGO
  iapply (wp_take m ρ K c (oS false 0) (used_oS false 0 (by decide)) (steps.drop 14) (by decide) ((oCredit false 0).trans (amt_oS false 0).symm) (pay_oS m ρ c false 0)) $$ [HDSoF0 HOW]
  · isplitr; · iexact HR
    isplitr; · iexact HL
    isplitl [HDSoF0]; · iexact HDSoF0
    iexact HOW
  iintro ⟨HRoF0, HNSoF0, HOW⟩
  iapply (wp_take m ρ K c (oS false 1) (used_oS false 1 (by decide)) (steps.drop 14) (by decide) ((oCredit false 1).trans (amt_oS false 1).symm) (pay_oS m ρ c false 1)) $$ [HDSoF1 HOW]
  · isplitr; · iexact HR
    isplitr; · iexact HL
    isplitl [HDSoF1]; · iexact HDSoF1
    iexact HOW
  iintro ⟨HRoF1, HNSoF1, HOW⟩
  rw [wp_ret]; imodintro
  iapply Hk
  isplitl [HGW]; · iexact HGW
  isplitl [HGO]; · iexact HGO
  isplitl [HRoF0]; · iexact HRoF0
  isplitl [HNSoF0]; · iexact HNSoF0
  isplitl [HRoF1]; · iexact HRoF1
  isplitl [HNSoF1]; · iexact HNSoF1
  iexact HOW

end Cert.KernelIdeal.Run

end
-- ==== Proof.KernelIdeal.PartsB.lean ====
/-
# The parts that send: the first two hops

Each part of the body from what its hops and waits need to what they leave.
-/
module

public import proofs.«01_k».proof.Proof.KernelIdeal.Access
public import proofs.«01_k».proof.Proof.Gen.KernelIdeal.Skeleton

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 1600000 in
theorem part7 (K : Dev nD × Fin 33 → ℕ) (c : Dev nD) (w1 w2 : BitVec 32) (v194 : FVec F S256x8 .f32) (hlT : k0_pay53 v194 = lOwn m ρ true c) {Kt} :
    iprop(records m ρ K
        ∗ levAts L lv
        ∗ sMid m ρ true c
        ∗ oPts false 0 fullShare c (oFull m ρ false c)
        ∗ oAny false 1 (tgt false c)
        ∗ fare c (tgt false c) (oS false 0) (oV false 1)
        ∗ ow c (steps.drop 2)
        ∗ sPts false 0 fullShare c (sFull m ρ false c)
        ∗ sAny false 1 (tgt false c)
        ∗ fare c (tgt false c) (sS false 0) (sV false 1)
        ∗ ((sPts true 0 fullShare c (sFull m ρ true c)
          ∗ oPts false 0 fullShare.left c (oFull m ρ false c)
          ∗ due c (oS false 0)
          ∗ sPts false 0 fullShare.left c (sFull m ρ false c)
          ∗ due c (sS false 0)
          ∗ ow c (steps.drop 4)) -∗ Kt ⟨⟩))
      ⊢ wp frame (wpE (defs₀ (F := F)) 𝒱₀ (c : Thread nD τ) none) Set.univ
    (k0_part7 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 c w1 w2 v194) Kt := by
  simp only [k0_part7_eq_skeleton]; unfold k0_part7_skel
  simp only [Prog.lift, Prog.bind_op, Prog.bind_ret, Prog.pure_eq_ret, Prog.bind_assoc]
  iintro ⟨#HR, #HL, HMT, HPoF0, HAoF1, HFoF0, HOW, HPsF0, HAsF1, HFsF0, Hk⟩
  iapply (wp_st_sL m ρ c true hlT) $$ HMT; iintro HPsT0
  iapply (wp_hop_o m ρ K c _ false 0 1 rfl (dev3_eq c) (steps.drop 2) (steps.drop 3) rfl) $$ [HPoF0 HAoF1 HFoF0 HOW]
  · isplitr; · iexact HR
    isplitl [HPoF0]; · iexact HPoF0
    isplitl [HAoF1]; · iexact HAoF1
    isplitl [HFoF0]; · iexact HFoF0
    iexact HOW
  iintro ⟨HLoF0, HDSoF0, HOW⟩
  iapply (wp_hop_s m ρ K c _ false 0 1 rfl (dev4_eq c) (steps.drop 3) (steps.drop 4) rfl) $$ [HPsF0 HAsF1 HFsF0 HOW]
  · isplitr; · iexact HR
    isplitl [HPsF0]; · iexact HPsF0
    isplitl [HAsF1]; · iexact HAsF1
    isplitl [HFsF0]; · iexact HFsF0
    iexact HOW
  iintro ⟨HLsF0, HDSsF0, HOW⟩
  rw [wp_ret]; imodintro
  iapply Hk
  isplitl [HPsT0]; · iexact HPsT0
  isplitl [HLoF0]; · iexact HLoF0
  isplitl [HDSoF0]; · iexact HDSoF0
  isplitl [HLsF0]; · iexact HLsF0
  isplitl [HDSsF0]; · iexact HDSsF0
  iexact HOW

set_option maxHeartbeats 1600000 in
theorem part8 (K : Dev nD × Fin 33 → ℕ) (c : Dev nD) (w1 w2 : BitVec 32)  {Kt} :
    iprop(records m ρ K
        ∗ levAts L lv
        ∗ oPts true 0 fullShare c (oFull m ρ true c)
        ∗ oAny true 1 (tgt true c)
        ∗ fare c (tgt true c) (oS true 0) (oV true 1)
        ∗ ow c (steps.drop 4)
        ∗ sPts true 0 fullShare c (sFull m ρ true c)
        ∗ sAny true 1 (tgt true c)
        ∗ fare c (tgt true c) (sS true 0) (sV true 1)
        ∗ due c (oV false 1)
        ∗ ((oPts true 0 fullShare.left c (oFull m ρ true c)
          ∗ due c (oS true 0)
          ∗ sPts true 0 fullShare.left c (sFull m ρ true c)
          ∗ due c (sS true 0)
          ∗ oPts false 1 fullShare c (oFull m ρ false c)
          ∗ done c (oV false 1)
          ∗ ow c (steps.drop 6)) -∗ Kt 1#32))
      ⊢ wp frame (wpE (defs₀ (F := F)) 𝒱₀ (c : Thread nD τ) none) Set.univ
    (k0_part8 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 c w1 w2) Kt := by
  simp only [k0_part8_eq_skeleton]; unfold k0_part8_skel
  simp only [Prog.lift, Prog.bind_op, Prog.bind_ret, Prog.pure_eq_ret, Prog.bind_assoc]
  iintro ⟨#HR, #HL, HPoT0, HAoT1, HFoT0, HOW, HPsT0, HAsT1, HFsT0, HDVoF1, Hk⟩
  iapply (wp_hop_o m ρ K c _ true 0 1 rfl (dev5_eq c) (steps.drop 4) (steps.drop 5) rfl) $$ [HPoT0 HAoT1 HFoT0 HOW]
  · isplitr; · iexact HR
    isplitl [HPoT0]; · iexact HPoT0
    isplitl [HAoT1]; · iexact HAoT1
    isplitl [HFoT0]; · iexact HFoT0
    iexact HOW
  iintro ⟨HLoT0, HDSoT0, HOW⟩
  iapply (wp_hop_s m ρ K c _ true 0 1 rfl (dev6_eq c) (steps.drop 5) (steps.drop 6) rfl) $$ [HPsT0 HAsT1 HFsT0 HOW]
  · isplitr; · iexact HR
    isplitl [HPsT0]; · iexact HPsT0
    isplitl [HAsT1]; · iexact HAsT1
    isplitl [HFsT0]; · iexact HFsT0
    iexact HOW
  iintro ⟨HLsT0, HDSsT0, HOW⟩
  iapply (wp_take m ρ K c (oV false 1) (used_oV false 1 (by decide)) (steps.drop 6) (by decide) ((oCredit false 1).trans (amt_oV false 1).symm) (pay_oV m ρ c false 1)) $$ [HDVoF1 HOW]
  · isplitr; · iexact HR
    isplitr; · iexact HL
    isplitl [HDVoF1]; · iexact HDVoF1
    iexact HOW
  iintro ⟨HPoF1, HNVoF1, HOW⟩
  rw [wp_ret]; imodintro
  iapply Hk
  isplitl [HLoT0]; · iexact HLoT0
  isplitl [HDSoT0]; · iexact HDSoT0
  isplitl [HLsT0]; · iexact HLsT0
  isplitl [HDSsT0]; · iexact HDSsT0
  isplitl [HPoF1]; · iexact HPoF1
  isplitl [HNVoF1]; · iexact HNVoF1
  iexact HOW

set_option maxHeartbeats 1600000 in
theorem part9 (K : Dev nD × Fin 33 → ℕ) (c : Dev nD) (w1 w2 : BitVec 32)  {Kt} :
    iprop(records m ρ K
        ∗ levAts L lv
        ∗ oPts false 1 fullShare c (oFull m ρ false c)
        ∗ oAny false 2 (tgt false c)
        ∗ fare c (tgt false c) (oS false 1) (oV false 2)
        ∗ ow c (steps.drop 6)
        ∗ due c (sV false 1)
        ∗ ((oPts false 1 fullShare.left c (oFull m ρ false c)
          ∗ due c (oS false 1)
          ∗ sPts false 1 fullShare c (sFull m ρ false c)
          ∗ done c (sV false 1)
          ∗ ow c (steps.drop 7)) -∗ Kt ⟨⟩))
      ⊢ wp frame (wpE (defs₀ (F := F)) 𝒱₀ (c : Thread nD τ) none) Set.univ
    (k0_part9 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 c w1 w2) Kt := by
  simp only [k0_part9_eq_skeleton]; unfold k0_part9_skel
  simp only [Prog.lift, Prog.bind_op, Prog.bind_ret, Prog.pure_eq_ret, Prog.bind_assoc]
  iintro ⟨#HR, #HL, HPoF1, HAoF2, HFoF1, HOW, HDVsF1, Hk⟩
  iapply (wp_hop_o m ρ K c _ false 1 2 rfl (dev7_eq c) (steps.drop 6) (steps.drop 7) rfl) $$ [HPoF1 HAoF2 HFoF1 HOW]
  · isplitr; · iexact HR
    isplitl [HPoF1]; · iexact HPoF1
    isplitl [HAoF2]; · iexact HAoF2
    isplitl [HFoF1]; · iexact HFoF1
    iexact HOW
  iintro ⟨HLoF1, HDSoF1, HOW⟩
  iapply (wp_take m ρ K c (sV false 1) (used_sV false 1 (by decide)) (steps.drop 7) (by decide) ((sCredit false 1).trans (amt_sV false 1).symm) (pay_sV m ρ c false 1)) $$ [HDVsF1 HOW]
  · isplitr; · iexact HR
    isplitr; · iexact HL
    isplitl [HDVsF1]; · iexact HDVsF1
    iexact HOW
  iintro ⟨HPsF1, HNVsF1, HOW⟩
  rw [wp_ret]; imodintro
  iapply Hk
  isplitl [HLoF1]; · iexact HLoF1
  isplitl [HDSoF1]; · iexact HDSoF1
  isplitl [HPsF1]; · iexact HPsF1
  isplitl [HNVsF1]; · iexact HNVsF1
  iexact HOW

set_option maxHeartbeats 1600000 in
theorem part10 (K : Dev nD × Fin 33 → ℕ) (c : Dev nD) (w1 : BitVec 32)  {Kt} :
    iprop(records m ρ K
        ∗ levAts L lv
        ∗ sPts false 1 fullShare c (sFull m ρ false c)
        ∗ sAny false 2 (tgt false c)
        ∗ fare c (tgt false c) (sS false 1) (sV false 2)
        ∗ ow c (steps.drop 7)
        ∗ due c (oV true 1)
        ∗ oAny true 2 (tgt true c)
        ∗ fare c (tgt true c) (oS true 1) (oV true 2)
        ∗ ((sPts false 1 fullShare.left c (sFull m ρ false c)
          ∗ due c (sS false 1)
          ∗ done c (oV true 1)
          ∗ oPts true 1 fullShare.left c (oFull m ρ true c)
          ∗ due c (oS true 1)
          ∗ ow c (steps.drop 9)) -∗ Kt ⟨⟩))
      ⊢ wp frame (wpE (defs₀ (F := F)) 𝒱₀ (c : Thread nD τ) none) Set.univ
    (k0_part10 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 c w1) Kt := by
  simp only [k0_part10_eq_skeleton]; unfold k0_part10_skel
  simp only [Prog.lift, Prog.bind_op, Prog.bind_ret, Prog.pure_eq_ret, Prog.bind_assoc]
  iintro ⟨#HR, #HL, HPsF1, HAsF2, HFsF1, HOW, HDVoT1, HAoT2, HFoT1, Hk⟩
  iapply (wp_hop_s m ρ K c _ false 1 2 rfl (dev8_eq c) (steps.drop 7) (steps.drop 8) rfl) $$ [HPsF1 HAsF2 HFsF1 HOW]
  · isplitr; · iexact HR
    isplitl [HPsF1]; · iexact HPsF1
    isplitl [HAsF2]; · iexact HAsF2
    isplitl [HFsF1]; · iexact HFsF1
    iexact HOW
  iintro ⟨HLsF1, HDSsF1, HOW⟩
  iapply (wp_take m ρ K c (oV true 1) (used_oV true 1 (by decide)) (steps.drop 8) (by decide) ((oCredit true 1).trans (amt_oV true 1).symm) (pay_oV m ρ c true 1)) $$ [HDVoT1 HOW]
  · isplitr; · iexact HR
    isplitr; · iexact HL
    isplitl [HDVoT1]; · iexact HDVoT1
    iexact HOW
  iintro ⟨HPoT1, HNVoT1, HOW⟩
  iapply (wp_hop_o m ρ K c _ true 1 2 rfl (dev9_eq c) (steps.drop 8) (steps.drop 9) rfl) $$ [HPoT1 HAoT2 HFoT1 HOW]
  · isplitr; · iexact HR
    isplitl [HPoT1]; · iexact HPoT1
    isplitl [HAoT2]; · iexact HAoT2
    isplitl [HFoT1]; · iexact HFoT1
    iexact HOW
  iintro ⟨HLoT1, HDSoT1, HOW⟩
  rw [wp_ret]; imodintro
  iapply Hk
  isplitl [HLsF1]; · iexact HLsF1
  isplitl [HDSsF1]; · iexact HDSsF1
  isplitl [HNVoT1]; · iexact HNVoT1
  isplitl [HLoT1]; · iexact HLoT1
  isplitl [HDSoT1]; · iexact HDSoT1
  iexact HOW

set_option maxHeartbeats 1600000 in
theorem part11 (K : Dev nD × Fin 33 → ℕ) (c : Dev nD) (w1 w2 : BitVec 32)  {Kt} :
    iprop(records m ρ K
        ∗ levAts L lv
        ∗ due c (sV true 1)
        ∗ ow c (steps.drop 9)
        ∗ sAny true 2 (tgt true c)
        ∗ fare c (tgt true c) (sS true 1) (sV true 2)
        ∗ due c (oV false 2)
        ∗ ((done c (sV true 1)
          ∗ sPts true 1 fullShare.left c (sFull m ρ true c)
          ∗ due c (sS true 1)
          ∗ oPts false 2 fullShare c (oFull m ρ false c)
          ∗ done c (oV false 2)
          ∗ ow c (steps.drop 10)) -∗ Kt ⟨⟩))
      ⊢ wp frame (wpE (defs₀ (F := F)) 𝒱₀ (c : Thread nD τ) none) Set.univ
    (k0_part11 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 c w1 w2) Kt := by
  simp only [k0_part11_eq_skeleton]; unfold k0_part11_skel
  simp only [Prog.lift, Prog.bind_op, Prog.bind_ret, Prog.pure_eq_ret, Prog.bind_assoc]
  iintro ⟨#HR, #HL, HDVsT1, HOW, HAsT2, HFsT1, HDVoF2, Hk⟩
  iapply (wp_take m ρ K c (sV true 1) (used_sV true 1 (by decide)) (steps.drop 9) (by decide) ((sCredit true 1).trans (amt_sV true 1).symm) (pay_sV m ρ c true 1)) $$ [HDVsT1 HOW]
  · isplitr; · iexact HR
    isplitr; · iexact HL
    isplitl [HDVsT1]; · iexact HDVsT1
    iexact HOW
  iintro ⟨HPsT1, HNVsT1, HOW⟩
  iapply (wp_hop_s m ρ K c _ true 1 2 rfl (dev10_eq c) (steps.drop 9) (steps.drop 10) rfl) $$ [HPsT1 HAsT2 HFsT1 HOW]
  · isplitr; · iexact HR
    isplitl [HPsT1]; · iexact HPsT1
    isplitl [HAsT2]; · iexact HAsT2
    isplitl [HFsT1]; · iexact HFsT1
    iexact HOW
  iintro ⟨HLsT1, HDSsT1, HOW⟩
  iapply (wp_take m ρ K c (oV false 2) (used_oV false 2 (by decide)) (steps.drop 10) (by decide) ((oCredit false 2).trans (amt_oV false 2).symm) (pay_oV m ρ c false 2)) $$ [HDVoF2 HOW]
  · isplitr; · iexact HR
    isplitr; · iexact HL
    isplitl [HDVoF2]; · iexact HDVoF2
    iexact HOW
  iintro ⟨HPoF2, HNVoF2, HOW⟩
  rw [wp_ret]; imodintro
  iapply Hk
  isplitl [HNVsT1]; · iexact HNVsT1
  isplitl [HLsT1]; · iexact HLsT1
  isplitl [HDSsT1]; · iexact HDSsT1
  isplitl [HPoF2]; · iexact HPoF2
  isplitl [HNVoF2]; · iexact HNVoF2
  iexact HOW

end Cert.KernelIdeal.Run

end
-- ==== Proof.KernelIdeal.PartsC.lean ====
/-
# The parts that send and wait: the last hop, and the sends ends

Each part of the body from what its hops and waits need to what they leave.
-/
module

public import proofs.«01_k».proof.Proof.KernelIdeal.Access
public import proofs.«01_k».proof.Proof.Gen.KernelIdeal.Skeleton

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 1600000 in
theorem part12 (K : Dev nD × Fin 33 → ℕ) (c : Dev nD) (w1 : BitVec 32)  {Kt : (PUnit) → sProp 𝕄} :
    iprop(records m ρ K
        ∗ levAts L lv
        ∗ oPts false 2 fullShare c (oFull m ρ false c)
        ∗ oAny false 3 (tgt false c)
        ∗ fare c (tgt false c) (oS false 2) (oV false 3)
        ∗ ow c (steps.drop 10)
        ∗ due c (sV false 2)
        ∗ sAny false 3 (tgt false c)
        ∗ fare c (tgt false c) (sS false 2) (sV false 3)
        ∗ ((oPts false 2 fullShare.left c (oFull m ρ false c)
          ∗ due c (oS false 2)
          ∗ done c (sV false 2)
          ∗ sPts false 2 fullShare.left c (sFull m ρ false c)
          ∗ due c (sS false 2)
          ∗ ow c (steps.drop 12)) -∗ Kt ⟨⟩))
      ⊢ wp frame (wpE (defs₀ (F := F)) 𝒱₀ (c : Thread nD τ) none) Set.univ
    (k0_part12 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 c w1) Kt := by
  simp only [k0_part12_eq_skeleton]; unfold k0_part12_skel
  simp only [Prog.lift, Prog.bind_op, Prog.bind_ret, Prog.pure_eq_ret, Prog.bind_assoc]
  iintro ⟨#HR, #HL, HPoF2, HAoF3, HFoF2, HOW, HDVsF2, HAsF3, HFsF2, Hk⟩
  iapply (wp_hop_o m ρ K c _ false 2 3 rfl (dev11_eq c) (steps.drop 10) (steps.drop 11) rfl) $$ [HPoF2 HAoF3 HFoF2 HOW]
  · isplitr; · iexact HR
    isplitl [HPoF2]; · iexact HPoF2
    isplitl [HAoF3]; · iexact HAoF3
    isplitl [HFoF2]; · iexact HFoF2
    iexact HOW
  iintro ⟨HLoF2, HDSoF2, HOW⟩
  iapply (wp_take m ρ K c (sV false 2) (used_sV false 2 (by decide)) (steps.drop 11) (by decide) ((sCredit false 2).trans (amt_sV false 2).symm) (pay_sV m ρ c false 2)) $$ [HDVsF2 HOW]
  · isplitr; · iexact HR
    isplitr; · iexact HL
    isplitl [HDVsF2]; · iexact HDVsF2
    iexact HOW
  iintro ⟨HPsF2, HNVsF2, HOW⟩
  iapply (wp_hop_s m ρ K c _ false 2 3 rfl (dev12_eq c) (steps.drop 11) (steps.drop 12) rfl) $$ [HPsF2 HAsF3 HFsF2 HOW]
  · isplitr; · iexact HR
    isplitl [HPsF2]; · iexact HPsF2
    isplitl [HAsF3]; · iexact HAsF3
    isplitl [HFsF2]; · iexact HFsF2
    iexact HOW
  iintro ⟨HLsF2, HDSsF2, HOW⟩
  rw [wp_ret]; imodintro
  iapply Hk
  isplitl [HLoF2]; · iexact HLoF2
  isplitl [HDSoF2]; · iexact HDSoF2
  isplitl [HNVsF2]; · iexact HNVsF2
  isplitl [HLsF2]; · iexact HLsF2
  isplitl [HDSsF2]; · iexact HDSsF2
  iexact HOW

set_option maxHeartbeats 1600000 in
theorem part13 (K : Dev nD × Fin 33 → ℕ) (c : Dev nD) (w1 : BitVec 32)  {Kt : (PUnit) → sProp 𝕄} :
    iprop(records m ρ K
        ∗ levAts L lv
        ∗ due c (oV true 2)
        ∗ ow c (steps.drop 12)
        ∗ oAny true 3 (tgt true c)
        ∗ fare c (tgt true c) (oS true 2) (oV true 3)
        ∗ ((done c (oV true 2)
          ∗ oPts true 2 fullShare.left c (oFull m ρ true c)
          ∗ due c (oS true 2)
          ∗ ow c (steps.drop 13)) -∗ Kt ⟨⟩))
      ⊢ wp frame (wpE (defs₀ (F := F)) 𝒱₀ (c : Thread nD τ) none) Set.univ
    (k0_part13 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 c w1) Kt := by
  simp only [k0_part13_eq_skeleton]; unfold k0_part13_skel
  simp only [Prog.lift, Prog.bind_op, Prog.bind_ret, Prog.pure_eq_ret, Prog.bind_assoc]
  iintro ⟨#HR, #HL, HDVoT2, HOW, HAoT3, HFoT2, Hk⟩
  iapply (wp_take m ρ K c (oV true 2) (used_oV true 2 (by decide)) (steps.drop 12) (by decide) ((oCredit true 2).trans (amt_oV true 2).symm) (pay_oV m ρ c true 2)) $$ [HDVoT2 HOW]
  · isplitr; · iexact HR
    isplitr; · iexact HL
    isplitl [HDVoT2]; · iexact HDVoT2
    iexact HOW
  iintro ⟨HPoT2, HNVoT2, HOW⟩
  iapply (wp_hop_o m ρ K c _ true 2 3 rfl (dev13_eq c) (steps.drop 12) (steps.drop 13) rfl) $$ [HPoT2 HAoT3 HFoT2 HOW]
  · isplitr; · iexact HR
    isplitl [HPoT2]; · iexact HPoT2
    isplitl [HAoT3]; · iexact HAoT3
    isplitl [HFoT2]; · iexact HFoT2
    iexact HOW
  iintro ⟨HLoT2, HDSoT2, HOW⟩
  rw [wp_ret]; imodintro
  iapply Hk
  isplitl [HNVoT2]; · iexact HNVoT2
  isplitl [HLoT2]; · iexact HLoT2
  isplitl [HDSoT2]; · iexact HDSoT2
  iexact HOW

set_option maxHeartbeats 1600000 in
theorem part14 (K : Dev nD × Fin 33 → ℕ) (c : Dev nD) (w1 w2 : BitVec 32)  {Kt : (PUnit) → sProp 𝕄} :
    iprop(records m ρ K
        ∗ levAts L lv
        ∗ due c (sV true 2)
        ∗ ow c (steps.drop 13)
        ∗ sAny true 3 (tgt true c)
        ∗ fare c (tgt true c) (sS true 2) (sV true 3)
        ∗ due c (oV false 3)
        ∗ ((done c (sV true 2)
          ∗ sPts true 2 fullShare.left c (sFull m ρ true c)
          ∗ due c (sS true 2)
          ∗ oPts false 3 fullShare c (oFull m ρ false c)
          ∗ done c (oV false 3)
          ∗ ow c (steps.drop 14)) -∗ Kt ⟨⟩))
      ⊢ wp frame (wpE (defs₀ (F := F)) 𝒱₀ (c : Thread nD τ) none) Set.univ
    (k0_part14 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 c w1 w2) Kt := by
  simp only [k0_part14_eq_skeleton]; unfold k0_part14_skel
  simp only [Prog.lift, Prog.bind_op, Prog.bind_ret, Prog.pure_eq_ret, Prog.bind_assoc]
  iintro ⟨#HR, #HL, HDVsT2, HOW, HAsT3, HFsT2, HDVoF3, Hk⟩
  iapply (wp_take m ρ K c (sV true 2) (used_sV true 2 (by decide)) (steps.drop 13) (by decide) ((sCredit true 2).trans (amt_sV true 2).symm) (pay_sV m ρ c true 2)) $$ [HDVsT2 HOW]
  · isplitr; · iexact HR
    isplitr; · iexact HL
    isplitl [HDVsT2]; · iexact HDVsT2
    iexact HOW
  iintro ⟨HPsT2, HNVsT2, HOW⟩
  iapply (wp_hop_s m ρ K c _ true 2 3 rfl (dev14_eq c) (steps.drop 13) (steps.drop 14) rfl) $$ [HPsT2 HAsT3 HFsT2 HOW]
  · isplitr; · iexact HR
    isplitl [HPsT2]; · iexact HPsT2
    isplitl [HAsT3]; · iexact HAsT3
    isplitl [HFsT2]; · iexact HFsT2
    iexact HOW
  iintro ⟨HLsT2, HDSsT2, HOW⟩
  iapply (wp_take m ρ K c (oV false 3) (used_oV false 3 (by decide)) (steps.drop 14) (by decide) ((oCredit false 3).trans (amt_oV false 3).symm) (pay_oV m ρ c false 3)) $$ [HDVoF3 HOW]
  · isplitr; · iexact HR
    isplitr; · iexact HL
    isplitl [HDVoF3]; · iexact HDVoF3
    iexact HOW
  iintro ⟨HPoF3, HNVoF3, HOW⟩
  rw [wp_ret]; imodintro
  iapply Hk
  isplitl [HNVsT2]; · iexact HNVsT2
  isplitl [HLsT2]; · iexact HLsT2
  isplitl [HDSsT2]; · iexact HDSsT2
  isplitl [HPoF3]; · iexact HPoF3
  isplitl [HNVoF3]; · iexact HNVoF3
  iexact HOW

set_option maxHeartbeats 1600000 in
theorem part15 (K : Dev nD × Fin 33 → ℕ) (c : Dev nD) (w1 : BitVec 32)  {Kt : (Σ' (v417 : Vec F S4x256x8x128 .f32), Vec F S4x2x256x8 .f32) → sProp 𝕄} :
    iprop(records m ρ K
        ∗ levAts L lv
        ∗ due c (sV false 3)
        ∗ ow c (steps.drop 14)
        ∗ due c (oV true 3)
        ∗ due c (sV true 3)
        ∗ oPts false 0 fullShare.left c (oFull m ρ false c)
        ∗ oPts false 1 fullShare.left c (oFull m ρ false c)
        ∗ oPts false 2 fullShare.left c (oFull m ρ false c)
        ∗ oPts false 3 fullShare c (oFull m ρ false c)
        ∗ sPts false 0 fullShare.left c (sFull m ρ false c)
        ∗ sPts false 1 fullShare.left c (sFull m ρ false c)
        ∗ sPts false 2 fullShare.left c (sFull m ρ false c)
        ∗ ((done c (sV false 3)
          ∗ oPts true 3 fullShare c (oFull m ρ true c)
          ∗ done c (oV true 3)
          ∗ sPts true 3 fullShare c (sFull m ρ true c)
          ∗ done c (sV true 3)
          ∗ ow c (steps.drop 14)
          ∗ oLeft m ρ false c
          ∗ sLeft m ρ false c) -∗ Kt ⟨oVec m ρ false c, sVec m ρ false c⟩))
      ⊢ wp frame (wpE (defs₀ (F := F)) 𝒱₀ (c : Thread nD τ) none) Set.univ
    (k0_part15 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 w1) Kt := by
  simp only [k0_part15_eq_skeleton]; unfold k0_part15_skel
  simp only [Prog.lift, Prog.bind_op, Prog.bind_ret, Prog.pure_eq_ret, Prog.bind_assoc]
  iintro ⟨#HR, #HL, HDVsF3, HOW, HDVoT3, HDVsT3, HLoF0, HLoF1, HLoF2, HPoF3, HLsF0, HLsF1, HLsF2, Hk⟩
  iapply (wp_take m ρ K c (sV false 3) (used_sV false 3 (by decide)) (steps.drop 14) (by decide) ((sCredit false 3).trans (amt_sV false 3).symm) (pay_sV m ρ c false 3)) $$ [HDVsF3 HOW]
  · isplitr; · iexact HR
    isplitr; · iexact HL
    isplitl [HDVsF3]; · iexact HDVsF3
    iexact HOW
  iintro ⟨HPsF3, HNVsF3, HOW⟩
  iapply (wp_take m ρ K c (oV true 3) (used_oV true 3 (by decide)) (steps.drop 14) (by decide) ((oCredit true 3).trans (amt_oV true 3).symm) (pay_oV m ρ c true 3)) $$ [HDVoT3 HOW]
  · isplitr; · iexact HR
    isplitr; · iexact HL
    isplitl [HDVoT3]; · iexact HDVoT3
    iexact HOW
  iintro ⟨HPoT3, HNVoT3, HOW⟩
  iapply (wp_take m ρ K c (sV true 3) (used_sV true 3 (by decide)) (steps.drop 14) (by decide) ((sCredit true 3).trans (amt_sV true 3).symm) (pay_sV m ρ c true 3)) $$ [HDVsT3 HOW]
  · isplitr; · iexact HR
    isplitr; · iexact HL
    isplitl [HDVsT3]; · iexact HDVsT3
    iexact HOW
  iintro ⟨HPsT3, HNVsT3, HOW⟩
  ihave HWo := (Entails.of_eq (show iprop(oPts false 0 fullShare.left c (oFull m ρ false c) ∗ oPts false 1 fullShare.left c (oFull m ρ false c) ∗ oPts false 2 fullShare.left c (oFull m ρ false c) ∗ oPts false 3 fullShare c (oFull m ρ false c)) = oLeft m ρ false c from rfl)) $$ [HLoF0 HLoF1 HLoF2 HPoF3]
  · isplitl [HLoF0]; · iexact HLoF0
    isplitl [HLoF1]; · iexact HLoF1
    isplitl [HLoF2]; · iexact HLoF2
    iexact HPoF3
  iapply (wp_ld_o m ρ c false) $$ HWo; iintro HWoF
  ihave HWs := (Entails.of_eq (show iprop(sPts false 0 fullShare.left c (sFull m ρ false c) ∗ sPts false 1 fullShare.left c (sFull m ρ false c) ∗ sPts false 2 fullShare.left c (sFull m ρ false c) ∗ sPts false 3 fullShare c (sFull m ρ false c)) = sLeft m ρ false c from rfl)) $$ [HLsF0 HLsF1 HLsF2 HPsF3]
  · isplitl [HLsF0]; · iexact HLsF0
    isplitl [HLsF1]; · iexact HLsF1
    isplitl [HLsF2]; · iexact HLsF2
    iexact HPsF3
  iapply (wp_ld_s m ρ c false) $$ HWs; iintro HWsF
  rw [wp_ret]; imodintro
  iapply Hk
  isplitl [HNVsF3]; · iexact HNVsF3
  isplitl [HPoT3]; · iexact HPoT3
  isplitl [HNVoT3]; · iexact HNVoT3
  isplitl [HPsT3]; · iexact HPsT3
  isplitl [HNVsT3]; · iexact HNVsT3
  isplitl [HOW]; · iexact HOW
  isplitl [HWoF]; · iexact HWoF
  iexact HWsF

set_option maxHeartbeats 1600000 in
theorem part18 (K : Dev nD × Fin 33 → ℕ) (c : Dev nD)   {Kt : (PUnit) → sProp 𝕄} :
    iprop(records m ρ K
        ∗ levAts L lv
        ∗ due c (oS false 2)
        ∗ ow c (steps.drop 14)
        ∗ due c (sS false 0)
        ∗ due c (sS false 1)
        ∗ ((oPts false 2 fullShare.right c (oFull m ρ false c)
          ∗ done c (oS false 2)
          ∗ sPts false 0 fullShare.right c (sFull m ρ false c)
          ∗ done c (sS false 0)
          ∗ sPts false 1 fullShare.right c (sFull m ρ false c)
          ∗ done c (sS false 1)
          ∗ ow c (steps.drop 14)) -∗ Kt ⟨⟩))
      ⊢ wp frame (wpE (defs₀ (F := F)) 𝒱₀ (c : Thread nD τ) none) Set.univ
    (k0_part18 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 ) Kt := by
  simp only [k0_part18_eq_skeleton]; unfold k0_part18_skel
  simp only [Prog.lift, Prog.bind_op, Prog.bind_ret, Prog.pure_eq_ret, Prog.bind_assoc]
  iintro ⟨#HR, #HL, HDSoF2, HOW, HDSsF0, HDSsF1, Hk⟩
  iapply (wp_take m ρ K c (oS false 2) (used_oS false 2 (by decide)) (steps.drop 14) (by decide) ((oCredit false 2).trans (amt_oS false 2).symm) (pay_oS m ρ c false 2)) $$ [HDSoF2 HOW]
  · isplitr; · iexact HR
    isplitr; · iexact HL
    isplitl [HDSoF2]; · iexact HDSoF2
    iexact HOW
  iintro ⟨HRoF2, HNSoF2, HOW⟩
  iapply (wp_take m ρ K c (sS false 0) (used_sS false 0 (by decide)) (steps.drop 14) (by decide) ((sCredit false 0).trans (amt_sS false 0).symm) (pay_sS m ρ c false 0)) $$ [HDSsF0 HOW]
  · isplitr; · iexact HR
    isplitr; · iexact HL
    isplitl [HDSsF0]; · iexact HDSsF0
    iexact HOW
  iintro ⟨HRsF0, HNSsF0, HOW⟩
  iapply (wp_take m ρ K c (sS false 1) (used_sS false 1 (by decide)) (steps.drop 14) (by decide) ((sCredit false 1).trans (amt_sS false 1).symm) (pay_sS m ρ c false 1)) $$ [HDSsF1 HOW]
  · isplitr; · iexact HR
    isplitr; · iexact HL
    isplitl [HDSsF1]; · iexact HDSsF1
    iexact HOW
  iintro ⟨HRsF1, HNSsF1, HOW⟩
  rw [wp_ret]; imodintro
  iapply Hk
  isplitl [HRoF2]; · iexact HRoF2
  isplitl [HNSoF2]; · iexact HNSoF2
  isplitl [HRsF0]; · iexact HRsF0
  isplitl [HNSsF0]; · iexact HNSsF0
  isplitl [HRsF1]; · iexact HRsF1
  isplitl [HNSsF1]; · iexact HNSsF1
  iexact HOW

set_option maxHeartbeats 1600000 in
theorem part19 (K : Dev nD × Fin 33 → ℕ) (c : Dev nD)   {Kt : (PUnit) → sProp 𝕄} :
    iprop(records m ρ K
        ∗ levAts L lv
        ∗ due c (sS false 2)
        ∗ ow c (steps.drop 14)
        ∗ due c (oS true 0)
        ∗ due c (oS true 1)
        ∗ ((sPts false 2 fullShare.right c (sFull m ρ false c)
          ∗ done c (sS false 2)
          ∗ oPts true 0 fullShare.right c (oFull m ρ true c)
          ∗ done c (oS true 0)
          ∗ oPts true 1 fullShare.right c (oFull m ρ true c)
          ∗ done c (oS true 1)
          ∗ ow c (steps.drop 14)) -∗ Kt ⟨⟩))
      ⊢ wp frame (wpE (defs₀ (F := F)) 𝒱₀ (c : Thread nD τ) none) Set.univ
    (k0_part19 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 ) Kt := by
  simp only [k0_part19_eq_skeleton]; unfold k0_part19_skel
  simp only [Prog.lift, Prog.bind_op, Prog.bind_ret, Prog.pure_eq_ret, Prog.bind_assoc]
  iintro ⟨#HR, #HL, HDSsF2, HOW, HDSoT0, HDSoT1, Hk⟩
  iapply (wp_take m ρ K c (sS false 2) (used_sS false 2 (by decide)) (steps.drop 14) (by decide) ((sCredit false 2).trans (amt_sS false 2).symm) (pay_sS m ρ c false 2)) $$ [HDSsF2 HOW]
  · isplitr; · iexact HR
    isplitr; · iexact HL
    isplitl [HDSsF2]; · iexact HDSsF2
    iexact HOW
  iintro ⟨HRsF2, HNSsF2, HOW⟩
  iapply (wp_take m ρ K c (oS true 0) (used_oS true 0 (by decide)) (steps.drop 14) (by decide) ((oCredit true 0).trans (amt_oS true 0).symm) (pay_oS m ρ c true 0)) $$ [HDSoT0 HOW]
  · isplitr; · iexact HR
    isplitr; · iexact HL
    isplitl [HDSoT0]; · iexact HDSoT0
    iexact HOW
  iintro ⟨HRoT0, HNSoT0, HOW⟩
  iapply (wp_take m ρ K c (oS true 1) (used_oS true 1 (by decide)) (steps.drop 14) (by decide) ((oCredit true 1).trans (amt_oS true 1).symm) (pay_oS m ρ c true 1)) $$ [HDSoT1 HOW]
  · isplitr; · iexact HR
    isplitr; · iexact HL
    isplitl [HDSoT1]; · iexact HDSoT1
    iexact HOW
  iintro ⟨HRoT1, HNSoT1, HOW⟩
  rw [wp_ret]; imodintro
  iapply Hk
  isplitl [HRsF2]; · iexact HRsF2
  isplitl [HNSsF2]; · iexact HNSsF2
  isplitl [HRoT0]; · iexact HRoT0
  isplitl [HNSoT0]; · iexact HNSoT0
  isplitl [HRoT1]; · iexact HRoT1
  isplitl [HNSoT1]; · iexact HNSoT1
  iexact HOW

end Cert.KernelIdeal.Run

end
-- ==== Proof.KernelIdeal.Body.lean ====
/-
# The body

A device's body from what the launch deals it to its result: the barrier, then the parts in order.
-/
module

public import proofs.«01_k».proof.Proof.KernelIdeal.State
public import proofs.«01_k».proof.Proof.KernelIdeal.PartsA
public import proofs.«01_k».proof.Proof.KernelIdeal.PartsB
public import proofs.«01_k».proof.Proof.KernelIdeal.PartsC
public import proofs.«01_k».proof.Proof.Gen.KernelIdeal.Skeleton

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The barrier: each neighbour is lent the slots it sends into, and lends those this device sends into. -/
theorem part1 (K : Dev nD × Fin 33 → ℕ) (c : Dev nD) {Kt : (Σ' (d0 : Dev nD) (v13 : BitVec 32), BitVec 32) → sProp 𝕄} :
    iprop(records m ρ K ∗ levAts L lv ∗ atPos ER ((c : Thread nD τ), .reg barS) 0 ∅ 0 ∗ cred (tallyAt ((c : Thread nD τ), SemLoc.reg barS) () 2)
        ∗ dutyTok ER ((tgt true c : Thread nD τ), .reg barS) 0 true ∗ dutyTok ER ((tgt false c : Thread nD τ), .reg barS) 0 false
        ∗ lent false c ∗ lent true c ∗ ow c (steps.drop 0)
        ∗ (∀ w1 : BitVec 32, ∀ w2 : BitVec 32, (atPos ER ((c : Thread nD τ), .reg barS) 1 ∅ 0 ∗ lent true (tgt true c) ∗ lent false (tgt false c) ∗ ow c (steps.drop 2)) -∗ Kt ⟨c, w1, w2⟩))
      ⊢ wp frame (wpE (defs₀ (F := F)) 𝒱₀ (c : Thread nD τ) none) Set.univ
    (k0_part1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11) Kt := by
  simp only [k0_part1_eq_skeleton]; unfold k0_part1_skel
  simp only [semSignalWord, semWaitWord, Prog.lift, Prog.bind_op, Prog.bind_ret, Prog.pure_eq_ret, Prog.bind_assoc, wp_deviceId]
  unfold ow
  iintro ⟨#HR, #HL, HA, HC, HT, HF, HlF, HlT, ⟨%W, HO⟩, Hk⟩
  simp only [dev1_eq c, dev2_eq c]
  have hbar : ∀ d : Dev nD, records m ρ K ⊢ cellInv ER (ringRd m ρ) (K (d, 32)) ((d : Thread nD τ), .reg barS) := fun d => inv_at m ρ K (d, 32)
  have hrch : ∀ d : Dev nD, records m ρ K ⊢ reached ER ((d : Thread nD τ), .reg barS) 0 := fun d => reached_at m ρ K (d, 32)
  iapply (Rounds.wp_signal 𝒱₀ ER (ringRd m ρ) (c : Thread nD τ) none (dst := (prv c : Thread nD τ)) (κ := K (prv c, 32))
      (d := true) (by rw [duties_bar]; exact Finset.mem_univ _) rfl () (ledger c (steps.drop 1)) rfl)
    $$ [HO HT HlF]
  · isplitr; · iapply (hbar (prv c)); iexact HR
    isplitl [HO]; · iexact HO
    isplitl [HT]; · iexact HT
    isplitl [HlF]
    · iapply (Entails.of_eq (show lent false c = (ringRd m ρ).payload ((prv c : Thread nD τ), .reg barS) 0 true from
        congrArg (lent false) (show c = frm true (prv c) from (nxt_prv c).symm)))
      iexact HlF
    · iapply (hrch (prv c)); iexact HR
  iintro HO
  iapply (Rounds.wp_signal 𝒱₀ ER (ringRd m ρ) (c : Thread nD τ) none (dst := (nxt c : Thread nD τ)) (κ := K (nxt c, 32))
      (d := false) (by rw [duties_bar]; exact Finset.mem_univ _) rfl () (ledger c (steps.drop 2)) rfl)
    $$ [HO HF HlT]
  · isplitr; · iapply (hbar (nxt c)); iexact HR
    isplitl [HO]; · iexact HO
    isplitl [HF]; · iexact HF
    isplitl [HlT]
    · iapply (Entails.of_eq (show lent true c = (ringRd m ρ).payload ((nxt c : Thread nD τ), .reg barS) 0 false from
        congrArg (lent true) (show c = frm false (nxt c) from (prv_nxt c).symm)))
      iexact HlT
    · iapply (hrch (nxt c)); iexact HR
  iintro HO
  iapply (Rounds.wp_wait_rest_token 𝒱₀ ER (ringRd m ρ) (c : Thread nD τ) none (κ := K (c, 32))
      (wpE_semWait_eq 𝒱₀ (c : Thread nD τ) none Set.univ) (Set.mem_univ _) () (O := ledger c (steps.drop 2)) (W := W) (R := 0) (m := 0) (T := ∅)
      (by rw [expect_bar]; decide)) $$ [HC HO HA]
  · isplitr; · iapply (hbar c); iexact HR
    isplitl [HC]; · iexact HC
    isplitl [HO]; · iexact HO
    isplitr; · iapply (mayWait c (.reg barS) (steps.drop 2) 1 rfl (by decide)); iexact HL
    iexact HA
  iintro ⟨HO, HA, -, Hpay⟩
  ihave Hp := (Entails.of_eq (rest_bar m ρ c)) $$ Hpay
  icases Hp with ⟨HpT, HpF⟩
  rw [wp_ret]; imodintro
  iapply Hk
  isplitl [HA]; · iexact HA
  isplitl [HpT]; · iexact HpT
  isplitl [HpF]; · iexact HpF
  iexists _; iexact HO

set_option maxHeartbeats 8000000 in
set_option maxRecDepth 4000 in
/-- The whole body over its opened resources. -/
theorem run_body (K : Dev nD × Fin 33 → ℕ) (c : Dev nD) (g : Buf (Elt F) ((c : Thread nD τ).loc cc0_stg5_0)) {Kt : PUnit → sProp 𝕄} :
    iprop(records m ρ K
        ∗ levAts L lv
        ∗ opened c
        ∗ oAny false 0 c
        ∗ oAny true 0 c
        ∗ sAny false 0 c
        ∗ sAny true 0 c
        ∗ lent false c
        ∗ lent true c
        ∗ ow c steps
        ∗ (((c : Thread nD τ).loc cc0_stg0_0) ↦{fullShare} xstg m ρ c)
        ∗ (((c : Thread nD τ).loc cc0_stg1_0) ↦{fullShare} qstg m ρ c)
        ∗ (((c : Thread nD τ).loc cc0_stg2_0) ↦{fullShare} wstg m ρ c)
        ∗ (((c : Thread nD τ).loc cc0_stg3_0) ↦{fullShare} kstg m ρ c)
        ∗ (((c : Thread nD τ).loc cc0_stg4_0) ↦{fullShare} vstg m ρ c)
        ∗ (((c : Thread nD τ).loc cc0_stg5_0) ↦{fullShare} g)
        ∗ ((scr c
          ∗ semsZero c
          ∗ ow c []
          ∗ (((c : Thread nD τ).loc cc0_stg0_0) ↦{fullShare} xstg m ρ c)
          ∗ (((c : Thread nD τ).loc cc0_stg1_0) ↦{fullShare} qstg m ρ c)
          ∗ (((c : Thread nD τ).loc cc0_stg2_0) ↦{fullShare} wstg m ρ c)
          ∗ (((c : Thread nD τ).loc cc0_stg3_0) ↦{fullShare} kstg m ρ c)
          ∗ (((c : Thread nD τ).loc cc0_stg4_0) ↦{fullShare} vstg m ρ c)
          ∗ (((c : Thread nD τ).loc cc0_stg5_0) ↦{fullShare} outAt m ρ c)) -∗ Kt ⟨⟩))
      ⊢ wp frame (wpE (defs₀ (F := F)) 𝒱₀ (c : Thread nD τ) none) Set.univ
    (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11) Kt := by
  simp only [cc0_body_eq_skeleton]; unfold cc0_body_skel
  simp only [k0_part20_eq_skeleton]; unfold k0_part20_skel
  simp only [Prog.lift, Prog.bind_op, Prog.bind_ret, Prog.pure_eq_ret, Prog.bind_assoc, wp_bind]
  unfold opened
  iintro ⟨#HR, #HL, ⟨HBA, HBC, HBT, HBF, HFoF0, HFoF1, HFoF2, HFoT0, HFoT1, HFoT2, HFsF0, HFsF1, HFsF2, HFsT0, HFsT1, HFsT2, HDVoF1, HDVoF2, HDVoF3, HDVoT1, HDVoT2, HDVoT3, HDVsF1, HDVsF2, HDVsF3, HDVsT1, HDVsT2, HDVsT3, HUSoF3, HUVoF0, HUSoT3, HUVoT0, HUSsF3, HUVsF0, HUSsT3, HUVsT0⟩, HBoF, HBoT, HBsF, HBsT, HlF, HlT, HOW, HGX, HGQ, HGW, HGK, HGV, HGO, Hk⟩
  iapply (part1 m ρ K c)
  isplitr; · iexact HR
  isplitr; · iexact HL
  isplitl [HBA]; · iexact HBA
  isplitl [HBC]; · iexact HBC
  isplitl [HBT]; · iexact HBT
  isplitl [HBF]; · iexact HBF
  isplitl [HlF]; · iexact HlF
  isplitl [HlT]; · iexact HlT
  isplitl [HOW]; · iexact HOW
  iintro %w1 %w2 ⟨HBA, HlT, HlF, HOW⟩
  unfold lent
  icases HlF with ⟨HAoF1, HAoF2, HAoF3, HAsF1, HAsF2, HAsF3⟩
  icases HlT with ⟨HAoT1, HAoT2, HAoT3, HAsT1, HAsT2, HAsT3⟩
  iapply (part2 m ρ c )
  isplitl [HGX]; · iexact HGX
  isplitl [HGQ]; · iexact HGQ
  isplitl [HGK]; · iexact HGK
  isplitl [HGV]; · iexact HGV
  iintro ⟨HGX, HGQ, HGK, HGV⟩
  iapply (part3 m ρ c (k0_pay1 (ldX m ρ c) (ldQ m ρ c)) (k0_pay7 (ldV0 m ρ c)) (k0_pay10 (ldX m ρ c) (ldQ m ρ c) (ldK0 m ρ c)))
  isplitl [HGK]; · iexact HGK
  isplitl [HGV]; · iexact HGV
  iintro ⟨HGK, HGV⟩
  iapply (part4 m ρ c (k0_pay1 (ldX m ρ c) (ldQ m ρ c)))
  isplitl [HGK]; · iexact HGK
  isplitl [HGV]; · iexact HGV
  iintro ⟨HGK, HGV⟩
  iapply (part5 m ρ c (k0_pay1 (ldX m ρ c) (ldQ m ρ c)) (k0_pay3 (ldX m ρ c) (ldQ m ρ c) (ldK0 m ρ c)) (k0_pay5 (ldX m ρ c) (ldQ m ρ c) (ldK0 m ρ c)) (k0_pay6 (ldX m ρ c) (ldQ m ρ c) (ldK0 m ρ c) (ldV0 m ρ c)) (k0_pay9 (ldX m ρ c) (ldQ m ρ c) (ldK0 m ρ c)) (k0_pay13 (k0_pay7 (ldV0 m ρ c)) (k0_pay10 (ldX m ρ c) (ldQ m ρ c) (ldK0 m ρ c))) (k0_pay15 (k0_pay1 (ldX m ρ c) (ldQ m ρ c)) (ldK0 m ρ c)) (k0_pay18 (k0_pay1 (ldX m ρ c) (ldQ m ρ c)) (ldK0 m ρ c) (ldV0 m ρ c)) (k0_pay20 (k0_pay1 (ldX m ρ c) (ldQ m ρ c)) (ldK0 m ρ c)) (k0_pay23 (k0_pay1 (ldX m ρ c) (ldQ m ρ c)) (ldK0 m ρ c) (ldV0 m ρ c)) (k0_pay25 (k0_pay1 (ldX m ρ c) (ldQ m ρ c)) (ldK1 m ρ c)) (k0_pay28 (k0_pay1 (ldX m ρ c) (ldQ m ρ c)) (ldK1 m ρ c) (ldV1 m ρ c)) (k0_pay30 (k0_pay1 (ldX m ρ c) (ldQ m ρ c)) (ldK1 m ρ c)) (k0_pay33 (k0_pay1 (ldX m ρ c) (ldQ m ρ c)) (ldK1 m ρ c) (ldV1 m ρ c)) (k0_pay34 (ldK1 m ρ c)) (ldV1 m ρ c))
  isplitl [HGK]; · iexact HGK
  isplitl [HGV]; · iexact HGV
  iintro ⟨HGK, HGV⟩
  iapply (part6 m ρ c (k0_pay12 (k0_pay10 (ldX m ρ c) (ldQ m ρ c) (ldK0 m ρ c))) (k0_pay17 (k0_pay1 (ldX m ρ c) (ldQ m ρ c)) (ldK0 m ρ c)) (k0_pay22 (k0_pay1 (ldX m ρ c) (ldQ m ρ c)) (ldK0 m ρ c)) (k0_pay27 (k0_pay1 (ldX m ρ c) (ldQ m ρ c)) (ldK1 m ρ c)) (k0_pay32 (k0_pay1 (ldX m ρ c) (ldQ m ρ c)) (ldK1 m ρ c)) (k0_pay38 (k0_pay1 (ldX m ρ c) (ldQ m ρ c)) (k0_pay34 (ldK1 m ρ c))) (k0_pay42 (k0_pay1 (ldX m ρ c) (ldQ m ρ c)) (ldK1 m ρ c)) (oAll (ldX m ρ c) (ldQ m ρ c) (ldK0 m ρ c) (ldV0 m ρ c) (ldK1 m ρ c) (ldV1 m ρ c)) (mAll (ldX m ρ c) (ldQ m ρ c) (ldK0 m ρ c) (ldK1 m ρ c)) (k0_pay45 (k0_pay5 (ldX m ρ c) (ldQ m ρ c) (ldK0 m ρ c))) rfl rfl rfl rfl rfl)
  isplitl [HBoF]; · iexact HBoF
  isplitl [HBoT]; · iexact HBoT
  isplitl [HBsF]; · iexact HBsF
  isplitl [HBsT]; · iexact HBsT
  iintro ⟨HPoF0, HPoT0, HPsF0, HMT⟩
  iapply (part7 m ρ K c w1 w2 (k0_pay51 (k0_pay12 (k0_pay10 (ldX m ρ c) (ldQ m ρ c) (ldK0 m ρ c))) (k0_pay17 (k0_pay1 (ldX m ρ c) (ldQ m ρ c)) (ldK0 m ρ c)) (k0_pay22 (k0_pay1 (ldX m ρ c) (ldQ m ρ c)) (ldK0 m ρ c)) (k0_pay27 (k0_pay1 (ldX m ρ c) (ldQ m ρ c)) (ldK1 m ρ c)) (k0_pay32 (k0_pay1 (ldX m ρ c) (ldQ m ρ c)) (ldK1 m ρ c)) (k0_pay38 (k0_pay1 (ldX m ρ c) (ldQ m ρ c)) (k0_pay34 (ldK1 m ρ c))) (k0_pay42 (k0_pay1 (ldX m ρ c) (ldQ m ρ c)) (ldK1 m ρ c)) (k0_pay45 (k0_pay5 (ldX m ρ c) (ldQ m ρ c) (ldK0 m ρ c)))) rfl)
  isplitr; · iexact HR
  isplitr; · iexact HL
  isplitl [HMT]; · iexact HMT
  isplitl [HPoF0]; · iexact HPoF0
  isplitl [HAoF1]; · iexact HAoF1
  isplitl [HFoF0]; · iexact HFoF0
  isplitl [HOW]; · iexact HOW
  isplitl [HPsF0]; · iexact HPsF0
  isplitl [HAsF1]; · iexact HAsF1
  isplitl [HFsF0]; · iexact HFsF0
  iintro ⟨HPsT0, HLoF0, HDSoF0, HLsF0, HDSsF0, HOW⟩
  iapply (part8 m ρ K c w1 w2)
  isplitr; · iexact HR
  isplitr; · iexact HL
  isplitl [HPoT0]; · iexact HPoT0
  isplitl [HAoT1]; · iexact HAoT1
  isplitl [HFoT0]; · iexact HFoT0
  isplitl [HOW]; · iexact HOW
  isplitl [HPsT0]; · iexact HPsT0
  isplitl [HAsT1]; · iexact HAsT1
  isplitl [HFsT0]; · iexact HFsT0
  isplitl [HDVoF1]; · iexact HDVoF1
  iintro ⟨HLoT0, HDSoT0, HLsT0, HDSsT0, HPoF1, HNVoF1, HOW⟩
  iapply (part9 m ρ K c w2 1#32)
  isplitr; · iexact HR
  isplitr; · iexact HL
  isplitl [HPoF1]; · iexact HPoF1
  isplitl [HAoF2]; · iexact HAoF2
  isplitl [HFoF1]; · iexact HFoF1
  isplitl [HOW]; · iexact HOW
  isplitl [HDVsF1]; · iexact HDVsF1
  iintro ⟨HLoF1, HDSoF1, HPsF1, HNVsF1, HOW⟩
  iapply (part10 m ρ K c w1)
  isplitr; · iexact HR
  isplitr; · iexact HL
  isplitl [HPsF1]; · iexact HPsF1
  isplitl [HAsF2]; · iexact HAsF2
  isplitl [HFsF1]; · iexact HFsF1
  isplitl [HOW]; · iexact HOW
  isplitl [HDVoT1]; · iexact HDVoT1
  isplitl [HAoT2]; · iexact HAoT2
  isplitl [HFoT1]; · iexact HFoT1
  iintro ⟨HLsF1, HDSsF1, HNVoT1, HLoT1, HDSoT1, HOW⟩
  iapply (part11 m ρ K c w1 w2)
  isplitr; · iexact HR
  isplitr; · iexact HL
  isplitl [HDVsT1]; · iexact HDVsT1
  isplitl [HOW]; · iexact HOW
  isplitl [HAsT2]; · iexact HAsT2
  isplitl [HFsT1]; · iexact HFsT1
  isplitl [HDVoF2]; · iexact HDVoF2
  iintro ⟨HNVsT1, HLsT1, HDSsT1, HPoF2, HNVoF2, HOW⟩
  iapply (part12 m ρ K c w2)
  isplitr; · iexact HR
  isplitr; · iexact HL
  isplitl [HPoF2]; · iexact HPoF2
  isplitl [HAoF3]; · iexact HAoF3
  isplitl [HFoF2]; · iexact HFoF2
  isplitl [HOW]; · iexact HOW
  isplitl [HDVsF2]; · iexact HDVsF2
  isplitl [HAsF3]; · iexact HAsF3
  isplitl [HFsF2]; · iexact HFsF2
  iintro ⟨HLoF2, HDSoF2, HNVsF2, HLsF2, HDSsF2, HOW⟩
  iapply (part13 m ρ K c w1)
  isplitr; · iexact HR
  isplitr; · iexact HL
  isplitl [HDVoT2]; · iexact HDVoT2
  isplitl [HOW]; · iexact HOW
  isplitl [HAoT3]; · iexact HAoT3
  isplitl [HFoT2]; · iexact HFoT2
  iintro ⟨HNVoT2, HLoT2, HDSoT2, HOW⟩
  iapply (part14 m ρ K c w1 w2)
  isplitr; · iexact HR
  isplitr; · iexact HL
  isplitl [HDVsT2]; · iexact HDVsT2
  isplitl [HOW]; · iexact HOW
  isplitl [HAsT3]; · iexact HAsT3
  isplitl [HFsT2]; · iexact HFsT2
  isplitl [HDVoF3]; · iexact HDVoF3
  iintro ⟨HNVsT2, HLsT2, HDSsT2, HPoF3, HNVoF3, HOW⟩
  iapply (part15 m ρ K c w1)
  isplitr; · iexact HR
  isplitr; · iexact HL
  isplitl [HDVsF3]; · iexact HDVsF3
  isplitl [HOW]; · iexact HOW
  isplitl [HDVoT3]; · iexact HDVoT3
  isplitl [HDVsT3]; · iexact HDVsT3
  isplitl [HLoF0]; · iexact HLoF0
  isplitl [HLoF1]; · iexact HLoF1
  isplitl [HLoF2]; · iexact HLoF2
  isplitl [HPoF3]; · iexact HPoF3
  isplitl [HLsF0]; · iexact HLsF0
  isplitl [HLsF1]; · iexact HLsF1
  isplitl [HLsF2]; · iexact HLsF2
  iintro ⟨HNVsF3, HPoT3, HNVoT3, HPsT3, HNVsT3, HOW, HWoF, HWsF⟩
  iapply (part16 m ρ c (oVec m ρ false c) (sVec m ρ false c) _)
  isplitl [HGW]; · iexact HGW
  isplitl [HGO]; · iexact HGO
  isplitl [HLoT0]; · iexact HLoT0
  isplitl [HLoT1]; · iexact HLoT1
  isplitl [HLoT2]; · iexact HLoT2
  isplitl [HPoT3]; · iexact HPoT3
  isplitl [HLsT0]; · iexact HLsT0
  isplitl [HLsT1]; · iexact HLsT1
  isplitl [HLsT2]; · iexact HLsT2
  isplitl [HPsT3]; · iexact HPsT3
  iintro ⟨HGW, HGO, HWoT, HWsT⟩
  iapply (part17 m ρ K c (k0_pay55 (sVec m ρ true c)) (k0_pay56 (sVec m ρ true c)) (k0_pay57 (oVec m ρ true c) (sVec m ρ true c)) _)
  isplitr; · iexact HR
  isplitr; · iexact HL
  isplitl [HGW]; · iexact HGW
  isplitl [HGO]; · iexact HGO
  isplitl [HDSoF0]; · iexact HDSoF0
  isplitl [HOW]; · iexact HOW
  isplitl [HDSoF1]; · iexact HDSoF1
  iintro ⟨HGW, HGO, HRoF0, HNSoF0, HRoF1, HNSoF1, HOW⟩
  iapply (part18 m ρ K c )
  isplitr; · iexact HR
  isplitr; · iexact HL
  isplitl [HDSoF2]; · iexact HDSoF2
  isplitl [HOW]; · iexact HOW
  isplitl [HDSsF0]; · iexact HDSsF0
  isplitl [HDSsF1]; · iexact HDSsF1
  iintro ⟨HRoF2, HNSoF2, HRsF0, HNSsF0, HRsF1, HNSsF1, HOW⟩
  iapply (part19 m ρ K c )
  isplitr; · iexact HR
  isplitr; · iexact HL
  isplitl [HDSsF2]; · iexact HDSsF2
  isplitl [HOW]; · iexact HOW
  isplitl [HDSoT0]; · iexact HDSoT0
  isplitl [HDSoT1]; · iexact HDSoT1
  iintro ⟨HRsF2, HNSsF2, HRoT0, HNSoT0, HRoT1, HNSoT1, HOW⟩
  iapply (wp_take m ρ K c (oS true 2) (used_oS true 2 (by decide)) (steps.drop 14) (by decide) ((oCredit true 2).trans (amt_oS true 2).symm) (pay_oS m ρ c true 2)) $$ [HDSoT2 HOW]
  · isplitr; · iexact HR
    isplitr; · iexact HL
    isplitl [HDSoT2]; · iexact HDSoT2
    iexact HOW
  iintro ⟨HRoT2, HNSoT2, HOW⟩
  iapply (wp_take m ρ K c (sS true 0) (used_sS true 0 (by decide)) (steps.drop 14) (by decide) ((sCredit true 0).trans (amt_sS true 0).symm) (pay_sS m ρ c true 0)) $$ [HDSsT0 HOW]
  · isplitr; · iexact HR
    isplitr; · iexact HL
    isplitl [HDSsT0]; · iexact HDSsT0
    iexact HOW
  iintro ⟨HRsT0, HNSsT0, HOW⟩
  iapply (wp_take m ρ K c (sS true 1) (used_sS true 1 (by decide)) (steps.drop 14) (by decide) ((sCredit true 1).trans (amt_sS true 1).symm) (pay_sS m ρ c true 1)) $$ [HDSsT1 HOW]
  · isplitr; · iexact HR
    isplitr; · iexact HL
    isplitl [HDSsT1]; · iexact HDSsT1
    iexact HOW
  iintro ⟨HRsT1, HNSsT1, HOW⟩
  iapply (wp_take m ρ K c (sS true 2) (used_sS true 2 (by decide)) (steps.drop 14) (by decide) ((sCredit true 2).trans (amt_sS true 2).symm) (pay_sS m ρ c true 2)) $$ [HDSsT2 HOW]
  · isplitr; · iexact HR
    isplitr; · iexact HL
    isplitl [HDSsT2]; · iexact HDSsT2
    iexact HOW
  iintro ⟨HRsT2, HNSsT2, HOW⟩
  rw [wp_ret]
  imod (close_all m ρ K c) $$ [HNSoF0 HNSoF1 HNSoF2 HUSoF3 HUVoF0 HNVoF1 HNVoF2 HNVoF3 HNSoT0 HNSoT1 HNSoT2 HUSoT3 HUVoT0 HNVoT1 HNVoT2 HNVoT3 HNSsF0 HNSsF1 HNSsF2 HUSsF3 HUVsF0 HNVsF1 HNVsF2 HNVsF3 HNSsT0 HNSsT1 HNSsT2 HUSsT3 HUVsT0 HNVsT1 HNVsT2 HNVsT3 HBA] with Hz
  · isplitr; · iexact HR
    iapply (Entails.of_eq (end_eq c).symm)
    isplitl [HNSoF0]; · iexact HNSoF0
    isplitl [HNSoF1]; · iexact HNSoF1
    isplitl [HNSoF2]; · iexact HNSoF2
    isplitl [HUSoF3]; · iexact HUSoF3
    isplitl [HUVoF0]; · iexact HUVoF0
    isplitl [HNVoF1]; · iexact HNVoF1
    isplitl [HNVoF2]; · iexact HNVoF2
    isplitl [HNVoF3]; · iexact HNVoF3
    isplitl [HNSoT0]; · iexact HNSoT0
    isplitl [HNSoT1]; · iexact HNSoT1
    isplitl [HNSoT2]; · iexact HNSoT2
    isplitl [HUSoT3]; · iexact HUSoT3
    isplitl [HUVoT0]; · iexact HUVoT0
    isplitl [HNVoT1]; · iexact HNVoT1
    isplitl [HNVoT2]; · iexact HNVoT2
    isplitl [HNVoT3]; · iexact HNVoT3
    isplitl [HNSsF0]; · iexact HNSsF0
    isplitl [HNSsF1]; · iexact HNSsF1
    isplitl [HNSsF2]; · iexact HNSsF2
    isplitl [HUSsF3]; · iexact HUSsF3
    isplitl [HUVsF0]; · iexact HUVsF0
    isplitl [HNVsF1]; · iexact HNVsF1
    isplitl [HNVsF2]; · iexact HNVsF2
    isplitl [HNVsF3]; · iexact HNVsF3
    isplitl [HNSsT0]; · iexact HNSsT0
    isplitl [HNSsT1]; · iexact HNSsT1
    isplitl [HNSsT2]; · iexact HNSsT2
    isplitl [HUSsT3]; · iexact HUSsT3
    isplitl [HUVsT0]; · iexact HUVsT0
    isplitl [HNVsT1]; · iexact HNVsT1
    isplitl [HNVsT2]; · iexact HNVsT2
    isplitl [HNVsT3]; · iexact HNVsT3
    iexact HBA
  ihave HSoF := (o_join m ρ false c) $$ [HWoF HRoF0 HRoF1 HRoF2]
  · isplitl [HWoF]; · iexact HWoF
    isplitl [HRoF0]; · iexact HRoF0
    isplitl [HRoF1]; · iexact HRoF1
    iexact HRoF2
  ihave HSoT := (o_join m ρ true c) $$ [HWoT HRoT0 HRoT1 HRoT2]
  · isplitl [HWoT]; · iexact HWoT
    isplitl [HRoT0]; · iexact HRoT0
    isplitl [HRoT1]; · iexact HRoT1
    iexact HRoT2
  ihave HSsF := (s_join m ρ false c) $$ [HWsF HRsF0 HRsF1 HRsF2]
  · isplitl [HWsF]; · iexact HWsF
    isplitl [HRsF0]; · iexact HRsF0
    isplitl [HRsF1]; · iexact HRsF1
    iexact HRsF2
  ihave HSsT := (s_join m ρ true c) $$ [HWsT HRsT0 HRsT1 HRsT2]
  · isplitl [HWsT]; · iexact HWsT
    isplitl [HRsT0]; · iexact HRsT0
    isplitl [HRsT1]; · iexact HRsT1
    iexact HRsT2
  ihave Hscr := (scr_close m ρ c) $$ [HSoF HSoT HSsF HSsT]
  · isplitl [HSoF]; · iexact HSoF
    isplitl [HSoT]; · iexact HSoT
    isplitl [HSsF]; · iexact HSsF
    iexact HSsT
  imodintro
  iapply Hk
  isplitl [Hscr]; · iexact Hscr
  isplitl [Hz]; · iexact Hz
  isplitl [HOW]; · iexact HOW
  isplitl [HGX]; · iexact HGX
  isplitl [HGQ]; · iexact HGQ
  isplitl [HGW]; · iexact HGW
  isplitl [HGK]; · iexact HGK
  isplitl [HGV]; · iexact HGV
  iapply (Entails.of_eq (congrArg (fun f => (((c : Thread nD τ).loc cc0_stg5_0) ↦{fullShare} f : sProp 𝕄)) (outW_eq m ρ c g))); iexact HGO

end Cert.KernelIdeal.Run

end
-- ==== Proof.KernelIdeal.Launch.lean ====
/-
# The launch

The body's obligation to the pipeline; the ghost state minted and dealt; and the run: from any memory with the semaphores
at zero, the four devices' programs end, with each device's result at its computed contents, its other arrays as they were
and the semaphores at zero.
-/
module

public import proofs.«01_k».proof.Proof.KernelIdeal.Body
public import Idealize.ShloMosaic.Lib.Pipeline.CollectiveSegs
public import proofs.«01_k».proof.Proof.Gen.KernelIdeal.Skeleton

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body's obligation -/

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t₀.castSucc
    ∗ (∃ d, stg c cc0_stg0_0 ((dats m ρ 0 c).before (0 : Fin 6) t₀ d))
    ∗ (∃ d, stg c cc0_stg1_0 ((dats m ρ 0 c).before (1 : Fin 6) t₀ d))
    ∗ (∃ d, stg c cc0_stg2_0 ((dats m ρ 0 c).before (2 : Fin 6) t₀ d))
    ∗ (∃ d, stg c cc0_stg3_0 ((dats m ρ 0 c).before (3 : Fin 6) t₀ d))
    ∗ (∃ d, stg c cc0_stg4_0 ((dats m ρ 0 c).before (4 : Fin 6) t₀ d))
    ∗ (∃ d, stg c cc0_stg5_0 ((dats m ρ 0 c).before (5 : Fin 6) t₀ d)))
def bodyPost (c : Dev nD) : sProp 𝕄 :=
  iprop(Φ₁ c ∗ (dats m ρ 0 c).owesAt () t₀.succ
    ∗ stg c cc0_stg0_0 (xstg m ρ c)
    ∗ stg c cc0_stg1_0 (qstg m ρ c)
    ∗ stg c cc0_stg2_0 (wstg m ρ c)
    ∗ stg c cc0_stg3_0 (kstg m ρ c)
    ∗ stg c cc0_stg4_0 (vstg m ρ c)
    ∗ stg c cc0_stg5_0 (outAt m ρ c))

theorem sound_body (c : Dev nD) (Kt : PUnit → sProp 𝕄) :
    iprop(bodyPre m ρ c ∗ (bodyPost m ρ c -∗ Kt ⟨⟩))
      ⊢ wp frame (wpE (defs₀ (F := F)) 𝒱₀ (c : Thread nD τ) none) Set.univ
    (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11) Kt := by
  unfold bodyPre Φ₀ start ghost
  iintro ⟨⟨⟨⟨⟨%K, #HR, Hpos, Htok⟩, Hcr, #HL⟩, Hscr⟩, Ho, ⟨%d0, %g0, %hg0, H0⟩, ⟨%d1, %g1, %hg1, H1⟩, ⟨%d2, %g2, %hg2, H2⟩, ⟨%d3, %g3, %hg3, H3⟩,
    ⟨%d4, %g4, %hg4, H4⟩, ⟨%d5, %g5, %hg5, H5⟩⟩, Hk⟩
  have h0 : g0 = xstg m ρ c := by rw [hg0]; unfold Dat.before; rw [if_pos (fetch0_0 t₀)]; rfl
  subst h0
  have h1 : g1 = qstg m ρ c := by rw [hg1]; unfold Dat.before; rw [if_pos (fetch0_1 t₀)]; rfl
  subst h1
  have h2 : g2 = wstg m ρ c := by rw [hg2]; unfold Dat.before; rw [if_pos (fetch0_2 t₀)]; rfl
  subst h2
  have h3 : g3 = kstg m ρ c := by rw [hg3]; unfold Dat.before; rw [if_pos (fetch0_3 t₀)]; rfl
  subst h3
  have h4 : g4 = vstg m ρ c := by rw [hg4]; unfold Dat.before; rw [if_pos (fetch0_4 t₀)]; rfl
  subst h4
  unfold Dat.owesAt Pipeline.owesWithin
  icases Ho with ⟨%W, %hW, HO⟩
  ihave Hop := (open_start (F := F) c) $$ [Hpos Htok Hcr]
  · isplitl [Hpos]; · iexact Hpos
    isplitl [Htok]; · iexact Htok
    iexact Hcr
  ihave Hsl := (scr_open (F := F) c) $$ Hscr
  icases Hsl with ⟨HoF, HoT, HsF, HsT, HlF, HlT⟩
  iapply (run_body m ρ K c g5)
  isplitr; · iexact HR
  isplitr; · iexact HL
  isplitl [Hop]; · iexact Hop
  isplitl [HoF]; · iexact HoF
  isplitl [HoT]; · iexact HoT
  isplitl [HsF]; · iexact HsF
  isplitl [HsT]; · iexact HsT
  isplitl [HlF]; · iexact HlF
  isplitl [HlT]; · iexact HlT
  isplitl [HO]
  · unfold ow; iexists W
    iapply (Entails.of_eq (show owes (c : Thread nD τ) ((dats m ρ 0 c).owed t₀.castSucc) W = (owes (c : Thread nD τ) (ledger c steps) W : sProp 𝕄) from rfl))
    iexact HO
  isplitl [H0]; · iexact H0
  isplitl [H1]; · iexact H1
  isplitl [H2]; · iexact H2
  isplitl [H3]; · iexact H3
  isplitl [H4]; · iexact H4
  isplitl [H5]; · iexact H5
  iintro ⟨Hscr, Hz, HO, H0, H1, H2, H3, H4, H5⟩
  iapply Hk
  unfold bodyPost Φ₁ Dat.owesAt Pipeline.owesWithin
  isplitl [Hscr Hz]
  · isplitl [Hscr]; · iexact Hscr
    iexact Hz
  isplitl [HO]
  · unfold ow
    icases HO with ⟨%W', HO⟩
    iexists W'
    isplitr; · ipureintro; exact fun _ _ => Or.inl trivial
    iapply (Entails.of_eq (show owes (c : Thread nD τ) (ledger c []) W' = (owes (c : Thread nD τ) ((dats m ρ 0 c).owed t₀.succ) W' : sProp 𝕄) from rfl))
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  isplitl [H4]
  · iexists _; isplitr; · (ipureintro; rfl)
    iexact H4
  iexists _; isplitr; · (ipureintro; rfl)
  iexact H5

set_option maxRecDepth 20000 in
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre m ρ c ⊢ wp frame (wpE (defs₀ (F := F)) 𝒱₀ (c : Thread nD τ) none) Set.univ
    (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11) (fun _ => bodyPost m ρ c)
  iintro H
  iapply (sound_body m ρ c fun _ => bodyPost m ρ c)
  isplitl [H]; · iexact H
  iintro H; iexact H

/-! ## The launch's ghost state -/

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by decide
theorem kcell_injective : Function.Injective (kcell : Dev nD × Fin 33 → GSem nD τ sig) := by
  rintro ⟨c, k⟩ ⟨c', k'⟩ h
  exact Prod.ext (congrArg (fun g : GSem nD τ sig => g.1.1) h) (csem_injective (congrArg Prod.snd h))
def ringCells : Finset (GSem nD τ sig) := Finset.univ.map ⟨kcell, kcell_injective⟩

/-- The tokens as minted, by the cell they are for. -/
def tokOf (cj : Dev nD × Fin 34) : GSem nD τ sig × ℕ × Bool := (((cj.1 : Thread nD τ), pcell cj.2), 0, pduty cj.2)
theorem pcell_injective : Function.Injective (fun j : Fin 34 => (pcell j, pduty j)) := by decide
theorem tokOf_injective : Function.Injective tokOf := by
  rintro ⟨c, j⟩ ⟨c', j'⟩ h
  refine Prod.ext (congrArg (fun x : GSem nD τ sig × ℕ × Bool => x.1.1.1) h) (pcell_injective ?_)
  exact Prod.ext (congrArg (fun x : GSem nD τ sig × ℕ × Bool => x.1.2) h) (congrArg (fun x : GSem nD τ sig × ℕ × Bool => x.2.2) h)
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The duty tokens of a device's own cells. -/
def toks (c : Dev nD) : sProp 𝕄 := bigSep Finset.univ fun j : Fin 34 => dutyTok ER ((c : Thread nD τ), pcell j) 0 (pduty j)

/-- What the launch deals a device before the cells are opened, and after. -/
def G (c : Dev nD) : sProp 𝕄 :=
  iprop((bigSep Finset.univ fun k : Fin 33 => roundState ER (ringRd m ρ) (kcell (c, k)) 0)
    ∗ (bigSep Finset.univ fun k : Fin 33 => iprop(atPos ER (kcell (c, k)) 0 ∅ 0 ∗ reached ER (kcell (c, k)) 0)) ∗ toks c)
def G' (c : Dev nD) : sProp 𝕄 := iprop(∃ K, ghost m ρ K c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 33 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (ringRd m ρ) ringCells ringToks) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- All of a device's cells at zero are its own semaphores and the barrier's at zero. -/
theorem semsZero_eq (c : Dev nD) :
    (semsZero c : sProp 𝕄) = iprop(unscopedSems0 c ∗ Pipeline.ownSems0 (Ix := Unit) (Name := ℕ) (U := UU) (Lvl := ℕ) (Val := Elt F) (τ := τ) osem c) := by
  have hu : (unscopedSems0 c : sProp 𝕄) = semVal ((c : Thread nD τ), SemLoc.reg barS) 0 := by
    unfold unscopedSems0; rw [bigSep_eq_bigSepL_of_eq [SemLoc.reg barS] (by decide) (by decide)]; rfl
  rw [hu]
  unfold semsZero Pipeline.ownSems0
  rw [Fin.univ_castSuccEmb, Finset.cons_eq_insert, bigSep_insert (by decide), bigSep_map]
  rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (semsZero_eq (F := F) c).symm) $$ [Hos Hus]
  · isplitl [Hus] <;> iassumption
  unfold semsZero
  imod (show iprop((bigSep Finset.univ fun k : Fin 33 => semVal (kcell (c, k)) 0) ∗ bigSep Finset.univ fun k : Fin 33 => roundState ER (ringRd m ρ) (kcell (c, k)) 0)
      ⊢ (|={Set.univ}=> bigSep Finset.univ fun k => iprop(∃ κ : ℕ, cellInv ER (ringRd m ρ) κ (kcell (c, k))) : sProp 𝕄) from by
        rw [← bigSep_sep']
        exact (bigSep_mono fun k _ => (Rounds.body_intro ER (ringRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Who is dealt a token: the device that pays with it. -/
def dealt : Dev nD × Fin 34 ≃ Dev nD × Fin 34 where
  toFun cj := (pdev cj.2 cj.1, cj.2)
  invFun cj := (qdev cj.2 cj.1, cj.2)
  left_inv cj := Prod.ext (qdev_pdev cj.2 cj.1) rfl
  right_inv cj := Prod.ext (pdev_qdev cj.2 cj.1) rfl

theorem toks_around : (bigSep Finset.univ fun c : Dev nD => (toks c : sProp 𝕄)) = bigSep Finset.univ fun c : Dev nD => payToks c := by
  unfold toks payToks
  rw [← bigSep_univ_prod (fun cj : Dev nD × Fin 34 => (dutyTok ER ((cj.1 : Thread nD τ), pcell cj.2) 0 (pduty cj.2) : sProp 𝕄)),
    ← bigSep_univ_prod (fun cj : Dev nD × Fin 34 => (dutyTok ER ((pdev cj.2 cj.1 : Thread nD τ), pcell cj.2) 0 (pduty cj.2) : sProp 𝕄))]
  exact bigSep_univ_equiv dealt (fun cj : Dev nD × Fin 34 => (dutyTok ER ((cj.1 : Thread nD τ), pcell cj.2) 0 (pduty cj.2) : sProp 𝕄))

theorem ghost_intro (K : Dev nD × Fin 33 → ℕ) (c : Dev nD) : iprop(records m ρ K ∗ (posAt c ∗ payToks c)) ⊢ G' m ρ c := by
  unfold G' ghost
  iintro H
  iexists K; iexact H

theorem regroup :
    (bigSep Finset.univ fun c : Dev nD => iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 33 => iprop(∃ κ : ℕ, cellInv ER (ringRd m ρ) κ (kcell ck))),
    bigSep_congr (s := Finset.univ) (fun (c : Dev nD) _ => bigSep_sep' Finset.univ (fun k : Fin 33 => (atPos ER (kcell (c, k)) 0 ∅ 0 : sProp 𝕄)) (fun k => reached ER (kcell (c, k)) 0)),
    bigSep_sep', ← bigSep_univ_prod (fun ck : Dev nD × Fin 33 => (reached ER (kcell ck) 0 : sProp 𝕄)), toks_around]
  iintro ⟨HI, ⟨Hat, #HR⟩, Htok⟩
  ihave HK := (BI.bigSep_exists_pi Finset.univ (fun (ck : Dev nD × Fin 33) (κ : ℕ) => (cellInv ER (ringRd m ρ) κ (kcell ck) : sProp 𝕄))) $$ HI
  icases HK with ⟨%K, #HI⟩
  iapply (bigSep_with_persistent (R := records m ρ K) fun c _ => ghost_intro m ρ K c)
  isplitr
  · unfold records; isplitl; · iexact HI
    iexact HR
  · iapply (Entails.of_eq (bigSep_sep' Finset.univ (fun c : Dev nD => (posAt c : sProp 𝕄)) payToks).symm)
    isplitl [Hat]; · unfold posAt; iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch's credits -/

def owed₀ (c : Dev nD) : CellTallies nD τ sig Unit := ledger c steps

theorem tgt_eq_iff (b : Bool) (c d : Dev nD) : c = tgt b d ↔ d = frm b c := by revert b c d; decide

/-- What the devices owe a cell between them: each entry of the list for its semaphore once. -/
theorem owed_sum (c : Dev nD) (sm : SemLoc sig) (l : List (Bool × SemLoc sig)) :
    (∑ d : Dev nD, ledger d l ((c : Thread nD τ), sm) ()) = amt sm * l.countP (fun p => decide (p.2 = sm)) := by
  induction l with
  | nil => rw [List.countP_nil, Nat.mul_zero]; exact Finset.sum_eq_zero fun d _ => rfl
  | cons p l ih =>
    have h (d : Dev nD) : ledger d (p :: l) ((c : Thread nD τ), sm) () = ledger d l ((c : Thread nD τ), sm) () + (if d = frm p.1 c then (if p.2 = sm then amt sm else 0) else 0) := by
      show (ledger d l + tallyAt ((tgt p.1 d : Thread nD τ), p.2) () (amt p.2)) ((c : Thread nD τ), sm) () = _
      rw [Pi.add_apply, Finsupp.add_apply, tallyAt_apply]
      refine congrArg (ledger d l ((c : Thread nD τ), sm) () + ·) ?_
      by_cases h1 : d = frm p.1 c
      · rw [if_pos h1]
        by_cases h2 : p.2 = sm
        · rw [if_pos h2, if_pos ⟨by rw [h1, tgt_frm, h2], rfl⟩, h2]
        · rw [if_neg h2, if_neg fun h' => h2 (congrArg Prod.snd h'.1).symm]
      · rw [if_neg h1, if_neg fun h' => h1 ((tgt_eq_iff p.1 c d).mp (congrArg (fun g : GSem nD τ sig => g.1.1) h'.1))]
    rw [Finset.sum_congr rfl fun d _ => h d, Finset.sum_add_distrib, ih, Finset.sum_ite_eq', if_pos (Finset.mem_univ _), List.countP_cons]
    by_cases h2 : p.2 = sm
    · rw [if_pos h2, if_pos (decide_eq_true h2), Nat.mul_add, Nat.mul_one]
    · rw [if_neg h2, if_neg (by rw [decide_eq_true_eq]; exact h2), Nat.add_zero, Nat.add_zero]

theorem launch_cell (c : Dev nD) (sm : SemLoc sig) (n : ℕ) (hn : steps.countP (fun p => decide (p.2 = sm)) = n) :
    tallyOn ((c : Thread nD τ), sm) (launchCredit (Pipeline.owing owed₀) 0 ((c : Thread nD τ), sm)) = (tallyAt ((c : Thread nD τ), sm) () (amt sm * n) : CellTallies nD τ sig Unit) := by
  unfold tallyAt; refine congrArg _ (Finsupp.ext fun u => ?_); cases u
  rw [Pipeline.launchCredit_owing, Finsupp.single_eq_same, ← hn]
  exact owed_sum c sm steps

/-- The semaphores a device is credited on. -/
def credited : List (SemLoc sig) := [SemLoc.reg barS, .dma (oV false 1), .dma (oV false 2), .dma (oV false 3), .dma (oV true 1), .dma (oV true 2), .dma (oV true 3), .dma (sV false 1), .dma (sV false 2), .dma (sV false 3), .dma (sV true 1), .dma (sV true 2), .dma (sV true 3)]

theorem creds (c : Dev nD) : (Pipeline.launchCred owed₀ c : sProp 𝕄) ⊢ credits c := by
  have h0 : (Pipeline.launchCred owed₀ c : sProp 𝕄)
      ⊢ bigSep credited.toFinset fun sm => cred (tallyOn ((c : Thread nD τ), sm) (launchCredit (Pipeline.owing owed₀) 0 ((c : Thread nD τ), sm))) :=
    bigSep_subset (Finset.subset_univ credited.toFinset)
  refine h0.trans (Entails.of_eq ?_)
  rw [bigSep_eq_bigSepL_of_eq credited rfl (by decide)]
  unfold credited credits
  have e (sm : SemLoc sig) (h : steps.countP (fun p => decide (p.2 = sm)) = 1) :
      (cred (tallyOn ((c : Thread nD τ), sm) (launchCredit (Pipeline.owing owed₀) 0 ((c : Thread nD τ), sm))) : sProp 𝕄) = cred (tallyAt ((c : Thread nD τ), sm) () (amt sm)) := by
    rw [launch_cell c sm 1 h, Nat.mul_one]
  rw [← show (cred (tallyOn ((c : Thread nD τ), SemLoc.reg barS) (launchCredit (Pipeline.owing owed₀) 0 ((c : Thread nD τ), SemLoc.reg barS))) : sProp 𝕄)
      = cred (tallyAt ((c : Thread nD τ), SemLoc.reg barS) () 2) from by rw [launch_cell c (SemLoc.reg barS) 2 (by decide)]; rfl,
    ← e (.dma (oV false 1)) (by decide),
    ← e (.dma (oV false 2)) (by decide),
    ← e (.dma (oV false 3)) (by decide),
    ← e (.dma (oV true 1)) (by decide),
    ← e (.dma (oV true 2)) (by decide),
    ← e (.dma (oV true 3)) (by decide),
    ← e (.dma (sV false 1)) (by decide),
    ← e (.dma (sV false 2)) (by decide),
    ← e (.dma (sV false 3)) (by decide),
    ← e (.dma (sV true 1)) (by decide),
    ← e (.dma (sV true 2)) (by decide),
    ← e (.dma (sV true 3)) (by decide)]
  rfl

/-! ## The side conditions -/

theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁; rw [semsZero_eq]; unfold scr
  iintro ⟨Hr, HzU, HzO⟩
  isplitl [HzU]; · iexact HzU
  isplitl [HzO]; · iexact HzO
  iexact Hr

theorem waits (c : Dev nD) : (levAts L lv : sProp 𝕄) ⊢ Pipeline.cellsWaits cfgs (dats m ρ) () 0 c :=
  Pipeline.cellsWaits_intro cfgs (dats m ρ) () 0 c fun w s t => by
    have hl (l : List (Bool × SemLoc sig)) (h : ∀ p ∈ l, 0 < lvS p.2) : (levAts L lv : sProp 𝕄) ⊢ MayWait (c : Thread nD τ) (.dma (((cfgs 0).win w).sem s)) () (ledger c l) :=
      mayWait c _ l 0 (by fin_cases w <;> fin_cases s <;> decide) h
    rcases t with ⟨_ | _, ht⟩
    · exact hl steps (by decide)
    · exact hl [] (by decide)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := owed₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Run

end
-- ==== Proof.KernelIdeal.Read.lean ====
/-
# The run, read at the arrays

From any memory with the semaphores at zero the kernel ends with its five arguments as they were, every semaphore at
zero, and on each device the result that its merge and projection give.
-/
module

public import proofs.«01_k».proof.Proof.KernelIdeal.Launch
public import proofs.«01_k».proof.Proof.Gen.KernelIdeal.Skeleton

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A window here is the whole of its array: a block read is the array. -/
theorem xstg_eq (c : Dev nD) : xstg m ρ c = m ((c : Thread nD τ).loc main_arg0) :=
  Memref.read_access_unit_zero (Elt F) main_arg0 (funext fun a => by fin_cases a <;> rfl) _ _
theorem qstg_eq (c : Dev nD) : qstg m ρ c = m ((c : Thread nD τ).loc main_arg1) :=
  Memref.read_access_unit_zero (Elt F) main_arg1 (funext fun a => by fin_cases a <;> rfl) _ _
theorem wstg_eq (c : Dev nD) : wstg m ρ c = m ((c : Thread nD τ).loc main_arg4) :=
  Memref.read_access_unit_zero (Elt F) main_arg4 (funext fun a => by fin_cases a <;> rfl) _ _
theorem kstg_eq (c : Dev nD) : kstg m ρ c = m ((c : Thread nD τ).loc main_arg2) :=
  Memref.read_access_unit_zero (Elt F) main_arg2 (funext fun a => by fin_cases a <;> rfl) _ _
theorem vstg_eq (c : Dev nD) : vstg m ρ c = m ((c : Thread nD τ).loc main_arg3) :=
  Memref.read_access_unit_zero (Elt F) main_arg3 (funext fun a => by fin_cases a <;> rfl) _ _

/-- The result's block is the whole of its array, so after the one step the array is what the body left. -/
theorem final_out (c : Dev nD) : finalA m ρ c (5 : Fin 6) = outAt m ρ c := by
  have hr (f : Buf (Elt F) ((c : Thread nD τ).loc main_v1)) : (win0_5.blk t₀).view.read (Elt F) f = f :=
    Memref.read_access_unit_zero (Elt F) main_v1 (funext fun a => by fin_cases a <;> rfl) _ f
  have hw : ((cfg0.win (5 : Fin 6)).blk t₀).view.read (Elt F) (finalA m ρ c (5 : Fin 6)) = outAt m ρ c := by
    unfold finalA
    rw [show cfg0.N = t₀.val + 1 from cfg0_N, (dats m ρ 0 c).arrAt_succ (5 : Fin 6) t₀, flush0_5, if_pos rfl, View.read_write_univ]
    rfl
  exact (hr _).symm.trans hw

/-- An argument's array after the run holds what it held. -/
theorem final_in (c : Dev nD) (w : Fin 6) (h : (cfg0.win w).isOut = false) :
    finalA m ρ c w = (s₀ m ρ).mem ((cfg0.win w).arr.view.loc (c : Thread nD τ)) := (dats (F := F) m ρ 0 c).arrAt_in w h _

theorem run_read : θ_run defs (onTc (τ := τ) (main (F := F))) (s₀ m ρ) (fun r => (∀ c : Dev nD,
      r.2.mem ((c : Thread nD τ).loc main_v1) = outAt m ρ c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs _ _).mono (fun _ h => ⟨fun c => ⟨(h.1 c (5 : Fin 6)).trans (final_out m ρ c), (h.1 c (0 : Fin 6)).trans (final_in m ρ c 0 rfl),
    (h.1 c (1 : Fin 6)).trans (final_in m ρ c 1 rfl), (h.1 c (3 : Fin 6)).trans (final_in m ρ c 3 rfl),
    (h.1 c (4 : Fin 6)).trans (final_in m ρ c 4 rfl), (h.1 c (2 : Fin 6)).trans (final_in m ρ c 2 rfl)⟩, h.2⟩) (run_main m ρ)

end Cert.KernelIdeal.Run

end
-- ==== Proof.Value.Softmax.lean ====
/-
  Softmax sums over the extended reals, read in blocks. A block of scores is summarised by its maximum, by the sum of
  `exp (score − maximum)` and by the same sum weighted by a value. Two facts are proved once, for every family of blocks:
  summaries of all blocks, rescaled to the common maximum, add up to the sum over all scores, and a running summary,
  rescaled at each block, stays the summary of the blocks met so far. No score is assumed finite.
-/
module

public import Idealize.ShloMosaic.Lib.Pointwise

@[expose] public section

noncomputable section

namespace Cert.Softmax

open Idealize.ShloMosaic

/-! ### The exponential of a difference -/

theorem exp_bot : Ideal.exp ⊥ = 0 := rfl

theorem exp_top : Ideal.exp ⊤ = ⊤ := rfl

theorem exp_coe (r : ℝ) : Ideal.exp (r : EReal) = (Real.exp r : EReal) := rfl

theorem exp_nonneg (x : EReal) : 0 ≤ Ideal.exp x := by
  induction x using EReal.rec with
  | bot => exact le_rfl
  | top => exact le_top
  | coe r => exact EReal.coe_nonneg.mpr (Real.exp_pos r).le

theorem exp_ne_top {x : EReal} (h : x ≠ ⊤) : Ideal.exp x ≠ ⊤ := by
  induction x using EReal.rec with
  | bot => exact EReal.zero_ne_top
  | top => exact absurd rfl h
  | coe r => exact EReal.coe_ne_top _

/-- A difference with the smaller number in front is not `⊤`. -/
theorem sub_ne_top {a b : EReal} (h : a ≤ b) : a - b ≠ ⊤ := by
  induction a using EReal.rec with
  | bot => simp
  | top => rw [top_le_iff.mp h]; simp
  | coe r =>
    induction b using EReal.rec with
    | bot => exact absurd (le_bot_iff.mp h) (EReal.coe_ne_bot r)
    | top => simp
    | coe t => exact_mod_cast EReal.coe_ne_top (r - t)

/-- Moving the point that the exponential is taken from, upwards. -/
theorem exp_chain {s a b : EReal} (h : s ≤ a) (h' : a ≤ b) :
    Ideal.exp (s - a) * Ideal.exp (a - b) = Ideal.exp (s - b) := by
  induction s using EReal.rec with
  | bot => simp [exp_bot]
  | top => rw [top_le_iff.mp h] at h' ⊢; rw [top_le_iff.mp h']; simp [exp_bot]
  | coe r =>
    induction a using EReal.rec with
    | bot => exact absurd (le_bot_iff.mp h) (EReal.coe_ne_bot r)
    | top => rw [top_le_iff.mp h']; simp [exp_bot]
    | coe t =>
      induction b using EReal.rec with
      | bot => exact absurd (le_bot_iff.mp h') (EReal.coe_ne_bot t)
      | top => simp [exp_bot]
      | coe u =>
        rw [← EReal.coe_sub, ← EReal.coe_sub, ← EReal.coe_sub, exp_coe, exp_coe, exp_coe, ← EReal.coe_mul,
          ← Real.exp_add, sub_add_sub_cancel]

/-! ### Distributing a nonnegative finite factor over a sum -/

theorem sum_mul_of_nonneg {ι : Type*} (A : Finset ι) (f : ι → EReal) {c : EReal} (h : 0 ≤ c) (h' : c ≠ ⊤) :
    (∑ i ∈ A, f i) * c = ∑ i ∈ A, f i * c := by
  classical
  induction A using Finset.induction_on with
  | empty => simp
  | insert i A hi ih =>
    rw [Finset.sum_insert hi, Finset.sum_insert hi, EReal.right_distrib_of_nonneg_of_ne_top h h', ih]

/-! ### The weighted sum of a block -/

/-- The sum of `exp (s j − p) · v j` over a block of scores `s`, taken from the point `p`. -/
def wsum {ι : Type*} [Fintype ι] (s v : ι → EReal) (p : EReal) : EReal :=
  ∑ j, Ideal.exp (s j - p) * v j

/-- The largest score of a block. -/
def top {ι : Type*} [Fintype ι] (s : ι → EReal) : EReal :=
  Finset.univ.sup s

theorem le_top' {ι : Type*} [Fintype ι] (s : ι → EReal) (j : ι) : s j ≤ top s :=
  Finset.le_sup (f := s) (Finset.mem_univ j)

/-- A fold of `max` from `⊥` is the largest value. -/
theorem fold_max {ι : Type*} (A : Finset ι) (s : ι → EReal) : A.fold max ⊥ s = A.sup s := rfl

/-- Rescaling a block's sum to a higher point. -/
theorem wsum_rescale {ι : Type*} [Fintype ι] (s v : ι → EReal) {p p' : EReal} (h : ∀ j, s j ≤ p) (h' : p ≤ p') :
    wsum s v p * Ideal.exp (p - p') = wsum s v p' := by
  unfold wsum
  rw [sum_mul_of_nonneg _ _ (exp_nonneg _) (exp_ne_top (sub_ne_top h'))]
  refine Finset.sum_congr rfl fun j _ => ?_
  rw [mul_right_comm, exp_chain (h j) h']

/-- Blocks summarised each from its own maximum, rescaled to the common maximum and added. -/
theorem merge {κ ι : Type*} [Fintype κ] [Fintype ι] (s v : κ → ι → EReal) :
    ∑ b, wsum (s b) (v b) (top (s b)) * Ideal.exp (top (s b) - top fun b => top (s b))
      = ∑ b, wsum (s b) (v b) (top fun b => top (s b)) :=
  Finset.sum_congr rfl fun b _ => wsum_rescale _ _ (le_top' (s b)) (le_top' (fun b => top (s b)) b)

/-- The largest score does not depend on how the scores are named. -/
theorem top_reindex {κ ι : Type*} [Fintype κ] [Fintype ι] (f : κ → ι) (hf : Function.Surjective f) (s : ι → EReal) :
    (top fun k => s (f k)) = top s := by
  refine le_antisymm (Finset.sup_le fun k _ => le_top' s (f k)) (Finset.sup_le fun i _ => ?_)
  obtain ⟨k, rfl⟩ := hf i
  exact le_top' (fun k => s (f k)) k

/-! ### A running summary -/

/-- The largest score of the first `t` blocks. -/
def runMax {ι : Type*} [Fintype ι] (s : ℕ → ι → EReal) : ℕ → EReal
  | 0 => ⊥
  | t + 1 => max (runMax s t) (top (s t))

/-- The running sum: at each block rescaled to the new maximum, then increased by the block's own sum. -/
def runSum {ι : Type*} [Fintype ι] (s v : ℕ → ι → EReal) : ℕ → EReal
  | 0 => 0
  | t + 1 => runSum s v t * Ideal.exp (runMax s t - runMax s (t + 1)) + wsum (s t) (v t) (runMax s (t + 1))

theorem runMax_mono {ι : Type*} [Fintype ι] (s : ℕ → ι → EReal) (t : ℕ) : runMax s t ≤ runMax s (t + 1) :=
  le_max_left _ _

theorem le_runMax {ι : Type*} [Fintype ι] (s : ℕ → ι → EReal) {t i : ℕ} (h : i < t) (j : ι) : s i j ≤ runMax s t := by
  induction t with
  | zero => omega
  | succ t ih =>
    rcases Nat.lt_succ_iff_lt_or_eq.mp h with h | rfl
    · exact (ih h).trans (runMax_mono s t)
    · exact (le_top' (s i) j).trans (le_max_right _ _)

theorem runMax_eq {ι : Type*} [Fintype ι] (s : ℕ → ι → EReal) (t : ℕ) :
    runMax s t = top fun i : Fin t => top (s i) := by
  induction t with
  | zero => rfl
  | succ t ih =>
    refine le_antisymm (max_le ?_ (le_top' (fun i : Fin (t + 1) => top (s i)) (Fin.last t))) ?_
    · rw [ih]
      exact Finset.sup_le fun i _ => le_top' (fun i : Fin (t + 1) => top (s i)) i.castSucc
    · refine Finset.sup_le fun i _ => Finset.sup_le fun j _ => le_runMax s i.isLt j

/-- The running sum is the sum over the blocks met so far, from their maximum. -/
theorem runSum_eq {ι : Type*} [Fintype ι] (s v : ℕ → ι → EReal) (t : ℕ) :
    runSum s v t = ∑ i : Fin t, wsum (s i) (v i) (runMax s t) := by
  induction t with
  | zero => rfl
  | succ t ih =>
    rw [Fin.sum_univ_castSucc, runSum, ih, sum_mul_of_nonneg _ _ (exp_nonneg _) (exp_ne_top (sub_ne_top (runMax_mono s t)))]
    congr 1
    exact Finset.sum_congr rfl fun i _ => wsum_rescale _ _ (fun j => le_runMax s i.isLt j) (runMax_mono s t)

/-! ### Cutting a row in equal tiles -/

/-- Entry `j` of tile `b`. -/
def tile {N : ℕ} (J T : ℕ) (hN : J * T = N) (b : Fin J) (j : Fin T) : Fin N :=
  ⟨b.val * T + j.val, by
    have hb := b.isLt; have hj := j.isLt
    calc b.val * T + j.val < b.val * T + T := by omega
      _ = (b.val + 1) * T := by ring
      _ ≤ J * T := Nat.mul_le_mul_right _ hb
      _ = N := hN⟩

theorem tile_surj {N : ℕ} (J T : ℕ) (hN : J * T = N) (n : Fin N) : ∃ b j, tile J T hN b j = n := by
  have hn : n.val < T * J := by rw [mul_comm, hN]; exact n.isLt
  have hT : 0 < T := by rcases Nat.eq_zero_or_pos T with h | h; · simp [h] at hn
                        · exact h
  exact ⟨⟨n.val / T, Nat.div_lt_of_lt_mul hn⟩, ⟨n.val % T, Nat.mod_lt _ hT⟩, Fin.ext (Nat.div_add_mod' _ _)⟩

theorem top_tiles {N : ℕ} (J T : ℕ) (hN : J * T = N) (s : Fin N → EReal) :
    (top fun b : Fin J => top fun j : Fin T => s (tile J T hN b j)) = top s := by
  refine le_antisymm (Finset.sup_le fun b _ => Finset.sup_le fun j _ => le_top' s _) (Finset.sup_le fun n _ => ?_)
  obtain ⟨b, j, rfl⟩ := tile_surj J T hN n
  exact (le_top' (fun j : Fin T => s (tile J T hN b j)) j).trans
    (le_top' (fun b : Fin J => top fun j : Fin T => s (tile J T hN b j)) b)

theorem wsum_tiles {N : ℕ} (J T : ℕ) (hN : J * T = N) (s v : Fin N → EReal) (p : EReal) :
    ∑ b : Fin J, wsum (fun j : Fin T => s (tile J T hN b j)) (fun j => v (tile J T hN b j)) p = wsum s v p := by
  unfold wsum
  exact (Fin.sum_univ_tiles J T hN fun n => Ideal.exp (s n - p) * v n).symm

end Cert.Softmax
-- ==== Proof.Value.Spec.lean ====
/-
  The result as a function of the arrays: attention of 512 queries in eight heads of 128 over 8192 keys, two heads of keys
  and values shared by four heads of queries each, followed by the output projection. Both programs are read to it.
-/
module

public import proofs.«01_k».proof.Proof.Value.Softmax

@[expose] public section

noncomputable section

namespace Cert.Attn

open Idealize.ShloMosaic Cert.Softmax

/-- The factor `1/√128` that scores are multiplied by, as the number its bits denote. -/
def scale : EReal := Ideal.ofBits .f32 0x3DB504F3#32

/-- The scale is a positive real number. -/
theorem scale_nonneg : 0 ≤ scale := by
  unfold scale; simp [Ideal.ofBits, Ideal.ieee, -EReal.coe_mul]

theorem scale_ne_top : scale ≠ ⊤ := by
  unfold scale; simp [Ideal.ofBits, Ideal.ieee, -EReal.coe_mul]

theorem ofBits_bot : Ideal.ofBits .f32 0xFF800000#32 = ⊥ := by
  simp [Ideal.ofBits, Ideal.ieee]

/-- The set of keys and values that a head of queries uses. -/
def grp (h : Fin 8) : Fin 2 := ⟨h.val / 4, by omega⟩

/-- The column of a head's entry among the 1024 columns, and back. -/
def col (h : Fin 8) (d : Fin 128) : Fin 1024 := ⟨h.val * 128 + d.val, by omega⟩
def colHead (t : Fin 1024) : Fin 8 := ⟨t.val / 128, by omega⟩
def colEntry (t : Fin 1024) : Fin 128 := ⟨t.val % 128, by omega⟩

section Arrays

variable (X : (⟨3, ![1, 512, 1024]⟩ : Shape).Idx → EReal) (WQ : (⟨2, ![1024, 1024]⟩ : Shape).Idx → EReal)
  (K V : (⟨4, ![1, 8192, 2, 128]⟩ : Shape).Idx → EReal) (WO : (⟨2, ![1024, 1024]⟩ : Shape).Idx → EReal)

/-- The queries, before scaling. -/
def qry (r : Fin 512) (h : Fin 8) (d : Fin 128) : EReal := ∑ k : Fin 1024, X (ix3 0 r k) * WQ (ix2 k (col h d))

/-- The score of query `r` of head `h` against key `n`. -/
def score (r : Fin 512) (h : Fin 8) (n : Fin 8192) : EReal := ∑ d : Fin 128, qry X WQ r h d * scale * K (ix4 0 n (grp h) d)

/-- Entry `e` of value `n` for head `h`. -/
def val (h : Fin 8) (e : Fin 128) (n : Fin 8192) : EReal := V (ix4 0 n (grp h) e)

/-- The attention output of query `r` of head `h` at entry `e`. -/
def attn (r : Fin 512) (h : Fin 8) (e : Fin 128) : EReal :=
  Ideal.div (wsum (score X WQ K r h) (val V h e) (top (score X WQ K r h)))
    (wsum (score X WQ K r h) (fun _ => 1) (top (score X WQ K r h)))

/-- The result. -/
def out (r : Fin 512) (n : Fin 1024) : EReal :=
  ∑ t : Fin 1024, attn X WQ K V r (colHead t) (colEntry t) * WO (ix2 t n)

end Arrays

end Cert.Attn
-- ==== Proof.Value.Heads.lean ====
/-
  One device's attention block at an index: the scores, row maxima, row sums and partial outputs of a head against the
  device's own keys and values, stated once for every head, and the eight heads put together.
-/
module

public import proofs.«01_k».proof.Proof.KernelIdeal.Vectors
public import proofs.«01_k».proof.Proof.Value.Spec

@[expose] public section

noncomputable section

set_option maxRecDepth 16384

namespace Cert.KernelIdeal.Run

open Cert.KernelIdeal Cert.KernelIdeal.Gen Cert.Softmax Cert.Attn
open Idealize.ShloMosaic

/-- The queries at an index: the product with the weights, scaled. -/
theorem pay1_apply (x : Vec Ideal S1x512x1024 .f32) (wq : Vec Ideal S1024x1024 .f32) (r : Fin 512) (h : Fin 8) (d : Fin 128) :
    k0_pay1 (F := Ideal) x wq (ix3 r h d)
      = qry x wq r h d * scale := by
  pointwise [k0_pay1, dot_S512x1024_S1024x1024_S512x1024_1_0_0_1_n_n]
  rfl

/-- A head's rows are a slice of the queries. -/
theorem slice_head (h : Fin 8) : S512x8x128.Slices ![0, h.val, 0] S512x1x128 := by
  fin_cases h
  · exact slices_S512x8x128_o0_0_0_S512x1x128
  · exact slices_S512x8x128_o0_1_0_S512x1x128
  · exact slices_S512x8x128_o0_2_0_S512x1x128
  · exact slices_S512x8x128_o0_3_0_S512x1x128
  · exact slices_S512x8x128_o0_4_0_S512x1x128
  · exact slices_S512x8x128_o0_5_0_S512x1x128
  · exact slices_S512x8x128_o0_6_0_S512x1x128
  · exact slices_S512x8x128_o0_7_0_S512x1x128

/-- The scores of head `h`. -/
def hS (h : Fin 8) (q : FVec Ideal S512x8x128 .f32) (k : Vec Ideal S1x2048x1x128 .f32) : FVec Ideal S512x2048 .f32 :=
  matmul dot_S512x128_S2048x128_S512x2048_1_1_0_0_n_n none
    (shapeCast S512x128 (extractStridedSlice S512x1x128 ![0, h.val, 0] q (slice_head h)) shapeCasts_S512x1x128_S512x128)
    (k0_pay7 k) (constant S512x2048 .f32 0x00000000#32)

/-- The largest score of each query. -/
def hM (s : FVec Ideal S512x2048 .f32) : FVec Ideal S512 .f32 :=
  multiReduction .maximumf [1] S512 s 0xFF800000#32 reduces_S512x2048_S512 (.inl rfl) rfl

/-- The exponentials of the scores, taken from the query's largest. -/
def hE (s : FVec Ideal S512x2048 .f32) : FVec Ideal S512x2048 .f32 :=
  exp (subf s (broadcastTo S512x2048 (shapeCast S512x1 (hM s) shapeCasts_S512_S512x1) broadcasts_S512x1_S512x2048))

/-- Their sums. -/
def hL (s : FVec Ideal S512x2048 .f32) : FVec Ideal S512 .f32 :=
  multiReduction .add [1] S512 (hE s) 0x00000000#32 reduces_S512x2048_S512 (.inl rfl) rfl

/-- The sums weighted by the values. -/
def hO (s : FVec Ideal S512x2048 .f32) (v : Vec Ideal S1x2048x1x128 .f32) : FVec Ideal S512x128 .f32 :=
  matmul dot_S512x2048_S2048x128_S512x128_1_0_0_1_n_n none (hE s) (k0_pay7 v) (constant S512x128 .f32 0x00000000#32)

theorem pay7_apply (k : Vec Ideal S1x2048x1x128 .f32) (j : Fin 2048) (d : Fin 128) : k0_pay7 k (ix2 j d) = k (ix4 0 j 0 d) := by
  pointwise [k0_pay7]

theorem hS_apply (h : Fin 8) (q : FVec Ideal S512x8x128 .f32) (k : Vec Ideal S1x2048x1x128 .f32) (r : Fin 512) (j : Fin 2048) :
    hS h q k (ix2 r j) = ∑ d : Fin 128, q (ix3 r h d) * k (ix4 0 j 0 d) := by
  pointwise [hS, pay7_apply, dot_S512x128_S2048x128_S512x2048_1_1_0_0_n_n]

theorem hM_apply (s : FVec Ideal S512x2048 .f32) (r : Fin 512) : hM s (ix1 r) = top fun j : Fin 2048 => s (ix2 r j) := by
  pointwise [hM, ofBits_bot]
  rfl

theorem hE_apply (s : FVec Ideal S512x2048 .f32) (r : Fin 512) (j : Fin 2048) :
    hE s (ix2 r j) = Ideal.exp (s (ix2 r j) - hM s (ix1 r)) := by
  pointwise [hE]

theorem hL_apply (s : FVec Ideal S512x2048 .f32) (r : Fin 512) :
    hL s (ix1 r) = wsum (fun j : Fin 2048 => s (ix2 r j)) (fun _ => 1) (hM s (ix1 r)) := by
  pointwise [hL, hE_apply, wsum]

theorem hO_apply (s : FVec Ideal S512x2048 .f32) (v : Vec Ideal S1x2048x1x128 .f32) (r : Fin 512) (e : Fin 128) :
    hO s v (ix2 r e) = wsum (fun j : Fin 2048 => s (ix2 r j)) (fun j => v (ix4 0 j 0 e)) (hM s (ix1 r)) := by
  pointwise [hO, hE_apply, pay7_apply, wsum, dot_S512x2048_S2048x128_S512x128_1_0_0_1_n_n]

section All

variable (x : Vec Ideal S1x512x1024 .f32) (wq : Vec Ideal S1024x1024 .f32) (k0 v0 k1 v1 : Vec Ideal S1x2048x1x128 .f32)

/-- The row sums of all the heads. -/
def lAll : FVec Ideal S512x8 .f32 :=
  k0_pay46 (k0_pay12 (k0_pay10 x wq k0)) (k0_pay17 (k0_pay1 x wq) k0) (k0_pay22 (k0_pay1 x wq) k0)
    (k0_pay27 (k0_pay1 x wq) k1) (k0_pay32 (k0_pay1 x wq) k1) (k0_pay38 (k0_pay1 x wq) (k0_pay34 k1)) (k0_pay42 (k0_pay1 x wq) k1)
    (k0_pay45 (k0_pay5 x wq k0))

/-- The keys or values that head `h` uses: four heads share one set. -/
def kv (h : Fin 8) (a b : Vec Ideal S1x2048x1x128 .f32) : Vec Ideal S1x2048x1x128 .f32 := if h.val < 4 then a else b

/-- The scores of head `h` of the device. -/
def sc (h : Fin 8) : FVec Ideal S512x2048 .f32 := hS h (k0_pay1 x wq) (kv h k0 k1)

theorem oAll_eq : oAll x wq k0 v0 k1 v1 = concatenate S512x8x128 1
    [⟨S512x1x128, shapeCast S512x1x128 (hO (sc x wq k0 k1 0) v0) shapeCasts_S512x128_S512x1x128⟩,
     ⟨S512x1x128, shapeCast S512x1x128 (hO (sc x wq k0 k1 1) v0) shapeCasts_S512x128_S512x1x128⟩,
     ⟨S512x1x128, shapeCast S512x1x128 (hO (sc x wq k0 k1 2) v0) shapeCasts_S512x128_S512x1x128⟩,
     ⟨S512x1x128, shapeCast S512x1x128 (hO (sc x wq k0 k1 3) v0) shapeCasts_S512x128_S512x1x128⟩,
     ⟨S512x1x128, shapeCast S512x1x128 (hO (sc x wq k0 k1 4) v1) shapeCasts_S512x128_S512x1x128⟩,
     ⟨S512x1x128, shapeCast S512x1x128 (hO (sc x wq k0 k1 5) v1) shapeCasts_S512x128_S512x1x128⟩,
     ⟨S512x1x128, shapeCast S512x1x128 (hO (sc x wq k0 k1 6) v1) shapeCasts_S512x128_S512x1x128⟩,
     ⟨S512x1x128, shapeCast S512x1x128 (hO (sc x wq k0 k1 7) v1) shapeCasts_S512x128_S512x1x128⟩]
    concatenates_S512x1x128_S512x1x128_S512x1x128_S512x1x128_S512x1x128_S512x1x128_S512x1x128_S512x1x128_S512x8x128_d1 := rfl

/-- Eight columns put side by side, at an index. -/
theorem columns_apply (c : Fin 8 → FVec Ideal S512 .f32) (r : Fin 512) (h : Fin 8) :
    concatenate S512x8 1
      [⟨S512x1, shapeCast S512x1 (c 0) shapeCasts_S512_S512x1⟩, ⟨S512x1, shapeCast S512x1 (c 1) shapeCasts_S512_S512x1⟩,
       ⟨S512x1, shapeCast S512x1 (c 2) shapeCasts_S512_S512x1⟩, ⟨S512x1, shapeCast S512x1 (c 3) shapeCasts_S512_S512x1⟩,
       ⟨S512x1, shapeCast S512x1 (c 4) shapeCasts_S512_S512x1⟩, ⟨S512x1, shapeCast S512x1 (c 5) shapeCasts_S512_S512x1⟩,
       ⟨S512x1, shapeCast S512x1 (c 6) shapeCasts_S512_S512x1⟩, ⟨S512x1, shapeCast S512x1 (c 7) shapeCasts_S512_S512x1⟩]
      concatenates_S512x1_S512x1_S512x1_S512x1_S512x1_S512x1_S512x1_S512x1_S512x8_d1 (ix2 r h) = c h (ix1 r) := by
  fin_cases h <;> pointwise

theorem mAll_apply (r : Fin 512) (h : Fin 8) : mAll x wq k0 k1 (ix2 r h) = hM (sc x wq k0 k1 h) (ix1 r) :=
  columns_apply (fun h => hM (sc x wq k0 k1 h)) r h

theorem lAll_apply (r : Fin 512) (h : Fin 8) : lAll x wq k0 k1 (ix2 r h) = hL (sc x wq k0 k1 h) (ix1 r) :=
  columns_apply (fun h => hL (sc x wq k0 k1 h)) r h

theorem oAll_apply (r : Fin 512) (h : Fin 8) (e : Fin 128) :
    oAll x wq k0 v0 k1 v1 (ix3 r h e) = hO (sc x wq k0 k1 h) (kv h v0 v1) (ix2 r e) := by
  rw [oAll_eq]
  fin_cases h <;> pointwise <;> rfl

end All

end Cert.KernelIdeal.Run

end
-- ==== Proof.Value.Merge.lean ====
/-
  The merge of the four devices' blocks at an index, and the result of a device: the attention over all the keys,
  projected.
-/
module

public import proofs.«01_k».proof.Proof.KernelIdeal.Read
public import proofs.«01_k».proof.Proof.Value.Heads

@[expose] public section

noncomputable section

set_option maxRecDepth 16384

namespace Cert.KernelIdeal.Run

open Cert.KernelIdeal Cert.KernelIdeal.Gen Cert.Softmax Cert.Attn
open Idealize.ShloMosaic Idealize.ShloMosaic.TcCoe

/-- Row `r` of half `b` among all the rows. -/
def row (b : Bool) (r : Fin 256) : Fin 512 := if b then ⟨256 + r.val, by omega⟩ else ⟨r.val, by omega⟩

section Own

variable (x : Vec Ideal S1x512x1024 .f32) (wq : Vec Ideal S1024x1024 .f32) (k0 v0 k1 v1 : Vec Ideal S1x2048x1x128 .f32)

theorem oSt_apply (b : Bool) (r : Fin 256) (h : Fin 8) (e : Fin 128) :
    oSt x wq k0 v0 k1 v1 b (ix4 0 r h e) = oAll x wq k0 v0 k1 v1 (ix3 (row b r) h e) := by
  cases b <;> pointwise [oSt, k0_pay47, k0_pay48, row, Bool.false_eq_true] <;> rfl

theorem mSt_apply (b : Bool) (r : Fin 256) (h : Fin 8) :
    mSt x wq k0 k1 b (ix4 0 0 r h) = mAll x wq k0 k1 (ix2 (row b r) h) := by
  cases b <;> pointwise [mSt, k0_pay49, k0_pay52, row, Bool.false_eq_true] <;> rfl

theorem lSt_apply (b : Bool) (r : Fin 256) (h : Fin 8) :
    lSt x wq k0 k1 b (ix4 0 0 r h) = lAll x wq k0 k1 (ix2 (row b r) h) := by
  cases b <;> pointwise [lSt, k0_pay50, k0_pay51, k0_pay53, row, Bool.false_eq_true] <;> rfl

end Own

/-- The weight that slot `k` of a full buffer of statistics gives to its block. -/
def wt (s4 : Vec Ideal S4x2x256x8 .f32) (k : Fin 4) (r : Fin 256) (h : Fin 8) : EReal :=
  Ideal.exp (s4 (ix4 k 0 r h) - top fun k : Fin 4 => s4 (ix4 k 0 r h))

/-- The merge at an index, the same for the two halves. -/
theorem mergeO_apply (b : Bool) (o4 : Vec Ideal S4x256x8x128 .f32) (s4 : Vec Ideal S4x2x256x8 .f32) (wo : Vec Ideal S1024x1024 .f32)
    (r : Fin 256) (n : Fin 1024) :
    mergeO b o4 s4 wo (ix3 0 r n) = ∑ t : Fin 1024,
      Ideal.div (∑ k : Fin 4, o4 (ix4 k r (colHead t) (colEntry t)) * wt s4 k r (colHead t))
        (∑ k : Fin 4, s4 (ix4 k 1 r (colHead t)) * wt s4 k r (colHead t)) * wo (ix2 t n) := by
  cases b
  · pointwise [mergeO, k0_pay54, dot_S256x1024_S1024x1024_S256x1024_1_0_0_1_n_n, ofBits_bot, wt, Bool.false_eq_true]
    rfl
  · pointwise [mergeO, k0_pay55, k0_pay56, k0_pay57, k0_pay58, dot_S256x1024_S1024x1024_S256x1024_1_0_0_1_n_n, ofBits_bot, wt, Bool.false_eq_true]
    rfl

section Device

variable (m : (ℓ : Loc nD τ sig) → Buf (Elt Ideal) ℓ) (ρ : Dev nD → PrngReg)

/-! ### What a device loads and what its slots hold, at an index -/

/-- A slice of the device's keys or values: the group `g` alone. -/
theorem slice_group (f : S1x2048x2x128.Idx → EReal) (g : Fin 2)
    (h : ∀ a, (![0, 0, g.val, 0] : Fin 4 → Nat) a + S1x2048x1x128.size a ≤ S1x2048x2x128.size a) (j : Fin 2048) (d : Fin 128) :
    f ((Rect.unit (s := S1x2048x2x128) ![0, 0, g.val, 0] S1x2048x1x128.size h).idx (ix4 0 j 0 d)) = f (ix4 0 j g d) := by
  refine congrArg f (funext fun a => Fin.ext ?_)
  match a with
  | ⟨0, _⟩ => rfl
  | ⟨1, _⟩ => show 0 + 1 * j.val = j.val; omega
  | ⟨2, _⟩ => show g.val + 1 * 0 = g.val; omega
  | ⟨3, _⟩ => show 0 + 1 * d.val = d.val; omega

/-- The keys of a head, out of the device's own keys. -/
theorem kv_ldK (c : Dev nD) (h : Fin 8) (j : Fin 2048) (d : Fin 128) :
    kv h (ldK0 m ρ c) (ldK1 m ρ c) (ix4 0 j 0 d) = (kstg m ρ c : S1x2048x2x128.Idx → EReal) (ix4 0 j (grp h) d) := by
  by_cases hh : h.val < 4
  · have hg : grp h = 0 := Fin.ext (Nat.div_eq_of_lt hh)
    rw [kv, if_pos hh, hg]
    exact slice_group (kstg m ρ c) 0 inb_S1x2048x2x128_S1x2048x1x128_0_0_0_0 j d
  · have hg : grp h = 1 := Fin.ext (by show h.val / 4 = 1; omega)
    rw [kv, if_neg hh, hg]
    exact slice_group (kstg m ρ c) 1 inb_S1x2048x2x128_S1x2048x1x128_0_0_1_0 j d

/-- The values of a head, out of the device's own values. -/
theorem kv_ldV (c : Dev nD) (h : Fin 8) (j : Fin 2048) (d : Fin 128) :
    kv h (ldV0 m ρ c) (ldV1 m ρ c) (ix4 0 j 0 d) = (vstg m ρ c : S1x2048x2x128.Idx → EReal) (ix4 0 j (grp h) d) := by
  by_cases hh : h.val < 4
  · have hg : grp h = 0 := Fin.ext (Nat.div_eq_of_lt hh)
    rw [kv, if_pos hh, hg]
    exact slice_group (vstg m ρ c) 0 inb_S1x2048x2x128_S1x2048x1x128_0_0_0_0 j d
  · have hg : grp h = 1 := Fin.ext (by show h.val / 4 = 1; omega)
    rw [kv, if_neg hh, hg]
    exact slice_group (vstg m ρ c) 1 inb_S1x2048x2x128_S1x2048x1x128_0_0_1_0 j d

theorem oVec_apply (b : Bool) (c : Dev nD) (k : Fin 4) (r : Fin 256) (h : Fin 8) (e : Fin 128) :
    oVec m ρ b c (ix4 k r h e) = oOwn m ρ b (back b c k) (ix4 0 r h e) :=
  congrArg (oOwn m ρ b (back b c k)) (funext fun a => by fin_cases a <;> rfl)

theorem sVec_max (b : Bool) (c : Dev nD) (k : Fin 4) (r : Fin 256) (h : Fin 8) :
    sVec m ρ b c (ix4 k 0 r h) = mOwn m ρ b (back b c k) (ix4 0 0 r h) :=
  congrArg (mOwn m ρ b (back b c k)) (funext fun a => by fin_cases a <;> rfl)

theorem sVec_sum (b : Bool) (c : Dev nD) (k : Fin 4) (r : Fin 256) (h : Fin 8) :
    sVec m ρ b c (ix4 k 1 r h) = lOwn m ρ b (back b c k) (ix4 0 0 r h) :=
  congrArg (lOwn m ρ b (back b c k)) (funext fun a => by fin_cases a <;> rfl)

/-- The half of the result that a row lies in. -/
theorem outAt_apply (b : Bool) (c : Dev nD) (r : Fin 256) (n : Fin 1024) :
    outAt m ρ c (ix3 0 (row b r) n) = mergeO b (oVec m ρ b c) (sVec m ρ b c) (ldW m ρ c) (ix3 0 r n) := by
  unfold outAt outW
  generalize hw0 : mergeO false (oVec m ρ false c) (sVec m ρ false c) (ldW m ρ c) = w0
  generalize hw1 : mergeO true (oVec m ρ true c) (sVec m ρ true c) (ldW m ρ c) = w1
  cases b
  · rw [hw0]
    have e : ix3 0 (row false r) n = (fM.access fR0 : View sig .tc _ _ _).emb (ix3 0 r n) := by
      refine funext fun a => Fin.ext ?_
      match a with
      | ⟨0, _⟩ => rfl
      | ⟨1, _⟩ => show r.val = 0 + 1 * r.val; omega
      | ⟨2, _⟩ => show n.val = 0 + 1 * n.val; omega
    rw [View.write_of_not_mem, e, View.write_emb_of_mem _ _ (Finset.mem_univ _)]
    · rfl
    · have e1 : (fM.access fR1 : View sig .tc _ _ _).setOn Finset.univ = fR1.set := View.set_slice_whole _ _
      rw [e1, Rect.mem_set_unit]
      intro hm
      have h1 : 256 ≤ r.val := (hm 1).1
      omega
  · rw [hw1]
    have e : ix3 0 (row true r) n = (fM.access fR1 : View sig .tc _ _ _).emb (ix3 0 r n) := by
      refine funext fun a => Fin.ext ?_
      match a with
      | ⟨0, _⟩ => rfl
      | ⟨1, _⟩ => show 256 + r.val = 256 + 1 * r.val; omega
      | ⟨2, _⟩ => show n.val = 0 + 1 * n.val; omega
    rw [e, View.write_emb_of_mem _ _ (Finset.mem_univ _)]
    rfl

/-! ### The result -/

/-- Where an entry of a device's block of keys lies among all the keys. -/
theorem block_entry (A : (⟨4, ![1, 8192, 2, 128]⟩ : Shape).Idx → EReal) (c : Fin 4) (j : Fin 2048) (g : Fin 2) (d : Fin 128) :
    Layout.block (⟨4, ![1, 2048, 2, 128]⟩ : Shape) (⟨4, ![1, 8192, 2, 128]⟩ : Shape) 1 4 c A (by decide) (ix4 0 j g d)
      = A (ix4 0 (tile 4 2048 rfl c j) g d) :=
  congrArg A (funext fun a => by fin_cases a <;> rfl)

variable (X : S1x512x1024.Idx → EReal) (WQ : S1024x1024.Idx → EReal) (K V : (⟨4, ![1, 8192, 2, 128]⟩ : Shape).Idx → EReal)
  (WO : S1024x1024.Idx → EReal)

/-- The arguments of every device: the whole arrays, and its own block of the keys and values. -/
structure Args : Prop where
  x : ∀ c : Dev nD, m ((c : Thread nD τ).loc main_arg0) = X
  q : ∀ c : Dev nD, m ((c : Thread nD τ).loc main_arg1) = WQ
  k : ∀ c : Dev nD, m ((c : Thread nD τ).loc main_arg2)
    = Layout.block (⟨4, ![1, 2048, 2, 128]⟩ : Shape) (⟨4, ![1, 8192, 2, 128]⟩ : Shape) 1 4 c K (by decide)
  v : ∀ c : Dev nD, m ((c : Thread nD τ).loc main_arg3)
    = Layout.block (⟨4, ![1, 2048, 2, 128]⟩ : Shape) (⟨4, ![1, 8192, 2, 128]⟩ : Shape) 1 4 c V (by decide)
  o : ∀ c : Dev nD, m ((c : Thread nD τ).loc main_arg4) = WO

variable {m ρ X WQ K V WO}

theorem ldX_arg (H : Args m X WQ K V WO) (c : Dev nD) : ldX m ρ c = X :=
  (Memref.readAt_unit_zero (Elt Ideal) cc0_stg0_0 (funext fun a => by fin_cases a <;> rfl) _ _).trans ((xstg_eq m ρ c).trans (H.x c))
theorem ldQ_arg (H : Args m X WQ K V WO) (c : Dev nD) : ldQ m ρ c = WQ :=
  (Memref.readAt_unit_zero (Elt Ideal) cc0_stg1_0 (funext fun a => by fin_cases a <;> rfl) _ _).trans ((qstg_eq m ρ c).trans (H.q c))
theorem ldW_arg (H : Args m X WQ K V WO) (c : Dev nD) : ldW m ρ c = WO :=
  (Memref.readAt_unit_zero (Elt Ideal) cc0_stg2_0 (funext fun a => by fin_cases a <;> rfl) _ _).trans ((wstg_eq m ρ c).trans (H.o c))

/-- A device's scores are its tile of the scores. -/
theorem sc_arg (H : Args m X WQ K V WO) (c : Dev nD) (h : Fin 8) (r : Fin 512) (j : Fin 2048) :
    sc (ldX m ρ c) (ldQ m ρ c) (ldK0 m ρ c) (ldK1 m ρ c) h (ix2 r j) = score X WQ K r h (tile 4 2048 rfl c j) := by
  rw [sc, hS_apply, score]
  refine Finset.sum_congr rfl fun d _ => ?_
  rw [pay1_apply, kv_ldK, kstg_eq, H.k c, block_entry, ldX_arg H, ldQ_arg H]

theorem val_arg (H : Args m X WQ K V WO) (c : Dev nD) (h : Fin 8) (e : Fin 128) (j : Fin 2048) :
    kv h (ldV0 m ρ c) (ldV1 m ρ c) (ix4 0 j 0 e) = val V h e (tile 4 2048 rfl c j) := by
  rw [kv_ldV, vstg_eq, H.v c, block_entry, val]

/-- A device's tile of the scores. -/
def tsc (X : S1x512x1024.Idx → EReal) (WQ : S1024x1024.Idx → EReal) (K : (⟨4, ![1, 8192, 2, 128]⟩ : Shape).Idx → EReal)
    (r : Fin 512) (h : Fin 8) (c : Fin 4) (j : Fin 2048) : EReal := score X WQ K r h (tile 4 2048 rfl c j)

theorem hM_arg (H : Args m X WQ K V WO) (c : Dev nD) (h : Fin 8) (r : Fin 512) :
    hM (sc (ldX m ρ c) (ldQ m ρ c) (ldK0 m ρ c) (ldK1 m ρ c) h) (ix1 r) = top (tsc X WQ K r h c) := by
  rw [hM_apply]
  exact congrArg top (funext fun j => sc_arg H c h r j)

theorem mOwn_apply (H : Args m X WQ K V WO) (b : Bool) (c : Dev nD) (r : Fin 256) (h : Fin 8) :
    mOwn m ρ b c (ix4 0 0 r h) = top (tsc X WQ K (row b r) h c) := by
  rw [mOwn, mSt_apply, mAll_apply, hM_arg H]

theorem lOwn_apply (H : Args m X WQ K V WO) (b : Bool) (c : Dev nD) (r : Fin 256) (h : Fin 8) :
    lOwn m ρ b c (ix4 0 0 r h) = wsum (tsc X WQ K (row b r) h c) (fun _ => 1) (top (tsc X WQ K (row b r) h c)) := by
  rw [lOwn, lSt_apply, lAll_apply, hL_apply, hM_arg H]
  exact congrArg (fun s => wsum s _ _) (funext fun j => sc_arg H c h _ j)

theorem oOwn_apply (H : Args m X WQ K V WO) (b : Bool) (c : Dev nD) (r : Fin 256) (h : Fin 8) (e : Fin 128) :
    oOwn m ρ b c (ix4 0 r h e) = wsum (tsc X WQ K (row b r) h c) (fun j => val V h e (tile 4 2048 rfl c j))
      (top (tsc X WQ K (row b r) h c)) := by
  rw [oOwn, oSt_apply, oAll_apply, hO_apply, hM_arg H]
  exact congrArg₂ (fun s v => wsum s v _) (funext fun j => sc_arg H c h _ j) (funext fun j => val_arg H c h e j)

/-- Every device is met once by the slots. -/
theorem back_bij (b : Bool) (c : Dev nD) : Function.Bijective (back b c) := ⟨back_inj b c, back_surj b c⟩

/-- A weighted sum over all the keys, from the slots' blocks. -/
theorem slots (b : Bool) (c : Dev nD) (r : Fin 512) (h : Fin 8) (v : Fin 8192 → EReal) :
    ∑ k : Fin 4, wsum (tsc X WQ K r h (back b c k)) (fun j => v (tile 4 2048 rfl (back b c k) j)) (top (tsc X WQ K r h (back b c k)))
        * Ideal.exp (top (tsc X WQ K r h (back b c k)) - top fun k : Fin 4 => top (tsc X WQ K r h (back b c k)))
      = wsum (score X WQ K r h) v (top (score X WQ K r h)) := by
  have ht : (top fun k : Fin 4 => top (tsc X WQ K r h (back b c k))) = top (score X WQ K r h) := by
    rw [top_reindex (back b c) (back_bij b c).2 fun d => top (tsc X WQ K r h d)]
    exact top_tiles 4 2048 rfl (score X WQ K r h)
  rw [merge (fun k => tsc X WQ K r h (back b c k)) fun k j => v (tile 4 2048 rfl (back b c k) j), ht,
    (back_bij b c).sum_comp fun d => wsum (tsc X WQ K r h d) (fun j => v (tile 4 2048 rfl d j)) (top (score X WQ K r h))]
  exact wsum_tiles 4 2048 rfl (score X WQ K r h) v _

/-- The result of a device at an index. -/
theorem outAt_row (H : Args m X WQ K V WO) (b : Bool) (c : Dev nD) (r : Fin 256) (n : Fin 1024) :
    outAt m ρ c (ix3 0 (row b r) n) = out X WQ K V WO (row b r) n := by
  rw [outAt_apply, mergeO_apply, ldW_arg H, out]
  show (∑ t : Fin 1024, _ : EReal) = _
  refine Finset.sum_congr rfl fun t _ => congrArg (· * WO (ix2 t n)) ?_
  rw [attn, ← slots b c (row b r) (colHead t) (val V (colHead t) (colEntry t)), ← slots b c (row b r) (colHead t) fun _ => 1]
  simp only [wt, oVec_apply, sVec_max, sVec_sum, oOwn_apply H, mOwn_apply H, lOwn_apply H]

theorem outAt_eq (H : Args m X WQ K V WO) (c : Dev nD) :
    outAt m ρ c = fun i : S1x512x1024.Idx => out X WQ K V WO (i 1) (i 2) := by
  funext i
  obtain ⟨z, R, n, rfl⟩ : ∃ (z : Fin 1) (R : Fin 512) (n : Fin 1024), i = ix3 z R n := ⟨i 0, i 1, i 2, eq_ix3 i⟩
  obtain rfl : z = 0 := Subsingleton.elim _ _
  obtain ⟨b, r, rfl⟩ : ∃ b r, row b r = R := by
    by_cases hR : R.val < 256
    · exact ⟨false, ⟨R.val, hR⟩, rfl⟩
    · exact ⟨true, ⟨R.val - 256, by omega⟩, Fin.ext (by show 256 + (R.val - 256) = R.val; omega)⟩
  exact outAt_row H b c r n

end Device

end Cert.KernelIdeal.Run

end
-- ==== Proof.Value.Walk.lean ====
/-
  The reference at an index. It walks the keys in eight chunks of 1024, keeping a running maximum, sum and output; each
  chunk's operations are read once, for every chunk, and the walk is the running summary of the scores.
-/
module

public import proofs.«01_k».proof.Proof.Gen.ReferenceIdeal.Run
public import proofs.«01_k».proof.Proof.Value.Spec

@[expose] public section

noncomputable section

set_option maxRecDepth 16384

namespace Cert.ReferenceIdeal.Walk

open Cert.ReferenceIdeal Cert.ReferenceIdeal.Gen Cert.ReferenceIdeal.Value Cert.Softmax Cert.Attn
open Idealize.ShloMosaic Idealize.ShloMosaic.TcCoe Idealize.ShloMosaic.StableHlo

/-! ### The operations of a chunk -/

/-- A maximum along the last of four axes, at an index, whatever the extents. -/
theorem hostMax_apply {n0 n1 n2 n3 : ℕ} {u : Shape} (x : FVec Ideal ⟨4, ![n0, n1, n2, n3]⟩ .f32) (c : u.Idx → EReal)
    (h : (⟨4, ![n0, n1, n2, n3]⟩ : Shape).ReducesTo [3] ⟨3, ![n0, n1, n2]⟩) (hu : 0 < u.numel) (hc : c (Shape.Idx.first hu) = ⊥)
    (a : Fin n0) (b : Fin n1) (e : Fin n2) :
    Host.reduce (α := EReal) (FloatOps.maximumf (F := Ideal) (φ := .f32)) x c h hu (ix3 a b e) = top fun j : Fin n3 => x (ix4 a b e j) := by
  refine (Host.reduce_eq_fold (max : EReal → EReal → EReal) x c h hu (ix3 a b e)).trans ?_
  rw [hc]
  exact h.fold_fiber_r4_a3 (ix3 a b e) max ⊥ x

/-- A chunk of keys or values is a slice of the repeated keys or values. -/
theorem slice_chunk (t : Fin 8) : S1x8192x8x128.Slices ![0, t.val * 1024, 0, 0] S1x1024x8x128 := by
  fin_cases t
  · exact slices_S1x8192x8x128_S1x1024x8x128_0_0_0_0
  · exact slices_S1x8192x8x128_S1x1024x8x128_0_1024_0_0
  · exact slices_S1x8192x8x128_S1x1024x8x128_0_2048_0_0
  · exact slices_S1x8192x8x128_S1x1024x8x128_0_3072_0_0
  · exact slices_S1x8192x8x128_S1x1024x8x128_0_4096_0_0
  · exact slices_S1x8192x8x128_S1x1024x8x128_0_5120_0_0
  · exact slices_S1x8192x8x128_S1x1024x8x128_0_6144_0_0
  · exact slices_S1x8192x8x128_S1x1024x8x128_0_7168_0_0

/-- Chunk `t` of an array of keys or values. -/
def part (t : Fin 8) (a : FVec Ideal S1x8192x8x128 .f32) : FVec Ideal S1x1024x8x128 .f32 :=
  extractStridedSlice S1x1024x8x128 ![0, t.val * 1024, 0, 0] a (slice_chunk t)

/-- The scores against a chunk of keys. -/
def cS (q : FVec Ideal S1x512x8x128 .f32) (k : FVec Ideal S1x1024x8x128 .f32) : FVec Ideal S1x8x512x1024 .f32 :=
  mulf (Host.dotGeneral dot_S1x512x8x128_S1x1024x8x128_S1x8x512x1024_3_3_1_1_02_02 none q k)
    (broadcastInDim S1x8x512x1024 ![] bcast_S_S1x8x512x1024 (constant S_ .f32 0x3DB504F3#32))

/-- The largest score of each query in the chunk. -/
def cX (s : FVec Ideal S1x8x512x1024 .f32) : FVec Ideal S1x8x512 .f32 :=
  Host.reduce FloatOps.maximumf s (constant S_ .f32 0xFF800000#32) reducesTo_S1x8x512x1024_S1x8x512_d3 h_S_

/-- The new maximum. -/
def cM (m : FVec Ideal S1x8x512x1 .f32) (s : FVec Ideal S1x8x512x1024 .f32) : FVec Ideal S1x8x512x1 .f32 :=
  maximumf m (broadcastInDim S1x8x512x1 ![0, 1, 2] bcast_S1x8x512_S1x8x512x1_0_1_2 (cX s))

/-- The factor that rescales what was kept. -/
def cA (m m' : FVec Ideal S1x8x512x1 .f32) : FVec Ideal S1x8x512x1 .f32 := Host.exp (subf m m')

/-- The exponentials of the chunk's scores. -/
def cP (s : FVec Ideal S1x8x512x1024 .f32) (m' : FVec Ideal S1x8x512x1 .f32) : FVec Ideal S1x8x512x1024 .f32 :=
  Host.exp (subf s (broadcastInDim S1x8x512x1024 ![0, 1, 2, 3] bcast_S1x8x512x1_S1x8x512x1024_0_1_2_3 m'))

/-- The new sum. -/
def cL (l a : FVec Ideal S1x8x512x1 .f32) (p : FVec Ideal S1x8x512x1024 .f32) : FVec Ideal S1x8x512x1 .f32 :=
  addf (mulf l a) (broadcastInDim S1x8x512x1 ![0, 1, 2] bcast_S1x8x512_S1x8x512x1_0_1_2
    (Host.reduceAdd p (constant S_ .f32 0x00000000#32) reducesTo_S1x8x512x1024_S1x8x512_d3 h_S_))

/-- The new output. -/
def cO (o : FVec Ideal S1x512x8x128 .f32) (a : FVec Ideal S1x8x512x1 .f32) (v : FVec Ideal S1x1024x8x128 .f32)
    (p : FVec Ideal S1x8x512x1024 .f32) : FVec Ideal S1x512x8x128 .f32 :=
  addf (mulf o (broadcastInDim S1x512x8x128 ![0, 1, 2, 3] bcast_S1x512x8x1_S1x512x8x128_0_1_2_3
      (transpose S1x512x8x1 [0, 2, 1, 3] a transposes_S1x8x512x1_S1x512x8x1_0_2_1_3)))
    (transpose S1x512x8x128 [0, 3, 1, 2]
      (Host.dotGeneral dot_S1x1024x8x128_S1x8x512x1024_S1x8x128x512_1_3_3_2_02_01 none v p) transposes_S1x8x128x512_S1x512x8x128_0_3_1_2)

/-- The division and the output projection. -/
def cF (o : FVec Ideal S1x512x8x128 .f32) (l : FVec Ideal S1x8x512x1 .f32) (wo : FVec Ideal S1024x1024 .f32) : FVec Ideal S1x512x1024 .f32 :=
  Host.dotGeneral dot_S1x512x1024_S1024x1024_S1x512x1024_2_0_01_1_n_n none
    (shapeCast S1x512x1024 (Host.divf o (broadcastInDim S1x512x8x128 ![0, 1, 2, 3] bcast_S1x512x8x1_S1x512x8x128_0_1_2_3
      (transpose S1x512x8x1 [0, 2, 1, 3] l transposes_S1x8x512x1_S1x512x8x1_0_2_1_3))) shapeCasts_S1x512x8x128_S1x512x1024) wo

section Read

variable (q : FVec Ideal S1x512x8x128 .f32) (k v : FVec Ideal S1x1024x8x128 .f32) (s p : FVec Ideal S1x8x512x1024 .f32)
  (m m' l a : FVec Ideal S1x8x512x1 .f32) (o : FVec Ideal S1x512x8x128 .f32) (wo : FVec Ideal S1024x1024 .f32)
  (r : Fin 512) (h : Fin 8) (j : Fin 1024) (e : Fin 128)

theorem part_apply (t : Fin 8) (b : FVec Ideal S1x8192x8x128 .f32) : part t b (ix4 0 j h e) = b (ix4 0 (tile 8 1024 rfl t j) h e) := by
  pointwise [part]
  rfl

theorem cS_apply : cS q k (ix4 0 h r j) = ∑ d : Fin 128, q (ix4 0 r h d) * scale * k (ix4 0 j h d) := by
  pointwise [cS, dot_S1x512x8x128_S1x1024x8x128_S1x8x512x1024_3_3_1_1_02_02]
  refine (sum_mul_of_nonneg _ _ scale_nonneg scale_ne_top).trans ?_
  exact Finset.sum_congr rfl fun d _ => mul_right_comm _ _ _

theorem cX_apply : cX s (ix3 0 h r) = top fun j : Fin 1024 => s (ix4 0 h r j) :=
  hostMax_apply s _ reducesTo_S1x8x512x1024_S1x8x512_d3 h_S_ ofBits_bot 0 h r

/-- A column put in place of a dropped axis. -/
theorem col_apply (w : FVec Ideal S1x8x512 .f32) (h : Fin 8) (r : Fin 512) :
    broadcastInDim S1x8x512x1 ![0, 1, 2] bcast_S1x8x512_S1x8x512x1_0_1_2 w (ix4 0 h r 0) = w (ix3 0 h r) := by
  pointwise

theorem cM_apply' : cM m s (ix4 0 h r 0) = max (m (ix4 0 h r 0)) (cX s (ix3 0 h r)) := by
  unfold cM
  generalize cX s = w
  exact congrArg (max (m (ix4 0 h r 0))) (col_apply w h r)

theorem cM_apply : cM m s (ix4 0 h r 0) = max (m (ix4 0 h r 0)) (top fun j : Fin 1024 => s (ix4 0 h r j)) :=
  (cM_apply' s m r h).trans (congrArg (max (m (ix4 0 h r 0))) (cX_apply s r h))

theorem cA_apply : cA m m' (ix4 0 h r 0) = Ideal.exp (m (ix4 0 h r 0) - m' (ix4 0 h r 0)) := by
  pointwise [cA]

theorem cP_apply : cP s m' (ix4 0 h r j) = Ideal.exp (s (ix4 0 h r j) - m' (ix4 0 h r 0)) := by
  pointwise [cP]

theorem cL_apply : cL l a p (ix4 0 h r 0) = l (ix4 0 h r 0) * a (ix4 0 h r 0) + ∑ j : Fin 1024, p (ix4 0 h r j) := by
  pointwise [cL]

theorem cO_apply : cO o a v p (ix4 0 r h e)
    = o (ix4 0 r h e) * a (ix4 0 h r 0) + ∑ j : Fin 1024, v (ix4 0 j h e) * p (ix4 0 h r j) := by
  pointwise [cO, dot_S1x1024x8x128_S1x8x512x1024_S1x8x128x512_1_3_3_2_02_01]

theorem cF_apply (n : Fin 1024) : cF o l wo (ix3 0 r n) = ∑ t : Fin 1024,
    Ideal.div (o (ix4 0 r (colHead t) (colEntry t))) (l (ix4 0 (colHead t) r 0)) * wo (ix2 t n) := by
  pointwise [cF, dot_S1x512x1024_S1024x1024_S1x512x1024_2_0_01_1_n_n]
  rfl

end Read

section Walk

variable (V0 : Valuation τ sig (Elt Ideal))

/-! ### The walk -/

/-- The chunk that step `t` reads: the eight of them in order. -/
def chunk (t : ℕ) : Fin 8 := ⟨t % 8, Nat.mod_lt _ (by decide)⟩

theorem chunk_val (i : Fin 8) : chunk i.val = i := Fin.ext (Nat.mod_eq_of_lt i.isLt)

/-- The scores of step `t`. -/
def sW (t : ℕ) : FVec Ideal S1x8x512x1024 .f32 := cS (res_main_v1 V0) (part (chunk t) (res_main_v3 V0))

/-- The maximum before step `t`. -/
def mW : ℕ → FVec Ideal S1x8x512x1 .f32
  | 0 => res_main_v7 V0
  | t + 1 => cM (mW t) (sW V0 t)

/-- The factor and the exponentials of step `t`. -/
def aW (t : ℕ) : FVec Ideal S1x8x512x1 .f32 := cA (mW V0 t) (mW V0 (t + 1))
def pW (t : ℕ) : FVec Ideal S1x8x512x1024 .f32 := cP (sW V0 t) (mW V0 (t + 1))

/-- The sum and the output before step `t`. -/
def lW : ℕ → FVec Ideal S1x8x512x1 .f32
  | 0 => broadcastInDim S1x8x512x1 ![] bcast_S_S1x8x512x1 (constant S_ .f32 0x00000000#32)
  | t + 1 => cL (lW t) (aW V0 t) (pW V0 t)
def oW : ℕ → FVec Ideal S1x512x8x128 .f32
  | 0 => broadcastInDim S1x512x8x128 ![] bcast_S_S1x512x8x128 (constant S_ .f32 0x00000000#32)
  | t + 1 => cO (oW t) (aW V0 t) (part (chunk t) (res_main_v5 V0)) (pW V0 t)

/-- One step of the walk, of any vectors computed as a step computes them. -/
theorem step {t : ℕ} {m m' a : FVec Ideal S1x8x512x1 .f32} {s p : FVec Ideal S1x8x512x1024 .f32} (hm : m = mW V0 t)
    (hs : s = sW V0 t) (hm' : m' = cM m s) (ha : a = cA m m') (hp : p = cP s m') :
    m' = mW V0 (t + 1) ∧ a = aW V0 t ∧ p = pW V0 t := by
  subst hp ha hm' hs hm
  exact ⟨rfl, rfl, rfl⟩

theorem step0 : res_main_v16 V0 = mW V0 1 ∧ res_main_v18 V0 = aW V0 0 ∧ res_main_v21 V0 = pW V0 0 :=
  step V0 (s := res_main_v13 V0) rfl rfl rfl rfl rfl
theorem step1 : res_main_v39 V0 = mW V0 2 ∧ res_main_v41 V0 = aW V0 1 ∧ res_main_v44 V0 = pW V0 1 :=
  step V0 (s := res_main_v36 V0) (step0 V0).1 rfl rfl rfl rfl
theorem step2 : res_main_v62 V0 = mW V0 3 ∧ res_main_v64 V0 = aW V0 2 ∧ res_main_v67 V0 = pW V0 2 :=
  step V0 (s := res_main_v59 V0) (step1 V0).1 rfl rfl rfl rfl
theorem step3 : res_main_v85 V0 = mW V0 4 ∧ res_main_v87 V0 = aW V0 3 ∧ res_main_v90 V0 = pW V0 3 :=
  step V0 (s := res_main_v82 V0) (step2 V0).1 rfl rfl rfl rfl
theorem step4 : res_main_v108 V0 = mW V0 5 ∧ res_main_v110 V0 = aW V0 4 ∧ res_main_v113 V0 = pW V0 4 :=
  step V0 (s := res_main_v105 V0) (step3 V0).1 rfl rfl rfl rfl
theorem step5 : res_main_v131 V0 = mW V0 6 ∧ res_main_v133 V0 = aW V0 5 ∧ res_main_v136 V0 = pW V0 5 :=
  step V0 (s := res_main_v128 V0) (step4 V0).1 rfl rfl rfl rfl
theorem step6 : res_main_v154 V0 = mW V0 7 ∧ res_main_v156 V0 = aW V0 6 ∧ res_main_v159 V0 = pW V0 6 :=
  step V0 (s := res_main_v151 V0) (step5 V0).1 rfl rfl rfl rfl
theorem step7 : res_main_v177 V0 = mW V0 8 ∧ res_main_v179 V0 = aW V0 7 ∧ res_main_v182 V0 = pW V0 7 :=
  step V0 (s := res_main_v174 V0) (step6 V0).1 rfl rfl rfl rfl

theorem out_walk : res_main_v192 V0 = oW V0 8 := by
  unfold res_main_v192
  rw [(step0 V0).2.1, (step0 V0).2.2, (step1 V0).2.1, (step1 V0).2.2, (step2 V0).2.1, (step2 V0).2.2, (step3 V0).2.1, (step3 V0).2.2, (step4 V0).2.1, (step4 V0).2.2, (step5 V0).2.1, (step5 V0).2.2, (step6 V0).2.1, (step6 V0).2.2, (step7 V0).2.1, (step7 V0).2.2]
  rfl

/-- A walk of eight steps for the sum, of any vectors computed as its steps compute them. -/
theorem sum_walk {l : FVec Ideal S1x8x512x1 .f32}
    (h : l = cL (cL (cL (cL (cL (cL (cL (cL (lW V0 0) (res_main_v18 V0) (res_main_v21 V0)) (res_main_v41 V0) (res_main_v44 V0)) (res_main_v64 V0) (res_main_v67 V0)) (res_main_v87 V0) (res_main_v90 V0)) (res_main_v110 V0) (res_main_v113 V0)) (res_main_v133 V0) (res_main_v136 V0)) (res_main_v156 V0) (res_main_v159 V0)) (res_main_v179 V0) (res_main_v182 V0)) : l = lW V0 8 := by
  rw [h, (step0 V0).2.1, (step0 V0).2.2, (step1 V0).2.1, (step1 V0).2.2, (step2 V0).2.1, (step2 V0).2.2, (step3 V0).2.1, (step3 V0).2.2, (step4 V0).2.1, (step4 V0).2.2, (step5 V0).2.1, (step5 V0).2.2, (step6 V0).2.1, (step6 V0).2.2, (step7 V0).2.1, (step7 V0).2.2]
  rfl

end Walk

end Cert.ReferenceIdeal.Walk

end
-- ==== Proof.Value.Reference.lean ====
/-
  The reference's result: the walk over the eight chunks is the running summary of a query's scores, so the result is the
  attention over all the keys, projected.
-/
module

public import proofs.«01_k».proof.Proof.Value.Walk

@[expose] public section

noncomputable section

set_option maxRecDepth 16384

namespace Cert.ReferenceIdeal.Walk

open Cert.ReferenceIdeal Cert.ReferenceIdeal.Gen Cert.ReferenceIdeal.Value Cert.Softmax Cert.Attn
open Idealize.ShloMosaic Idealize.ShloMosaic.TcCoe Idealize.ShloMosaic.StableHlo

variable (V0 : Valuation τ sig (Elt Ideal))

/-! ### The arguments, and what is made of them before the walk -/

def aX : S1x512x1024.Idx → EReal := V0 (Proc.devRef .tc main_arg0)
def aQ : S1024x1024.Idx → EReal := V0 (Proc.devRef .tc main_arg1)
def aK : S1x8192x2x128.Idx → EReal := V0 (Proc.devRef .tc main_arg2)
def aV : S1x8192x2x128.Idx → EReal := V0 (Proc.devRef .tc main_arg3)
def aO : S1024x1024.Idx → EReal := V0 (Proc.devRef .tc main_arg4)

/-- The queries at an index. -/
theorem q_apply (x : FVec Ideal S1x512x1024 .f32) (w : FVec Ideal S1024x1024 .f32) (r : Fin 512) (h : Fin 8) (d : Fin 128) :
    shapeCast S1x512x8x128 (Host.dotGeneral dot_S1x512x1024_S1024x1024_S1x512x1024_2_0_01_1_n_n none x w)
      shapeCasts_S1x512x1024_S1x512x8x128 (ix4 0 r h d) = qry x w r h d := by
  pointwise [dot_S1x512x1024_S1024x1024_S1x512x1024_2_0_01_1_n_n]
  rfl

/-- Keys or values repeated for the heads that share them, at an index. -/
theorem rep_apply (k : FVec Ideal S1x8192x2x128 .f32) (n : Fin 8192) (h : Fin 8) (d : Fin 128) :
    shapeCast S1x8192x8x128 (broadcastInDim S1x8192x2x4x128 ![0, 1, 2, 4] bcast_S1x8192x2x128_S1x8192x2x4x128_0_1_2_4 k)
      shapeCasts_S1x8192x2x4x128_S1x8192x8x128 (ix4 0 n h d) = k (ix4 0 n (grp h) d) := by
  pointwise
  rfl

theorem v1_apply (r : Fin 512) (h : Fin 8) (d : Fin 128) : res_main_v1 V0 (ix4 0 r h d) = qry (aX V0) (aQ V0) r h d :=
  q_apply _ _ r h d
theorem v3_apply (n : Fin 8192) (h : Fin 8) (d : Fin 128) : res_main_v3 V0 (ix4 0 n h d) = aK V0 (ix4 0 n (grp h) d) :=
  rep_apply _ n h d
theorem v5_apply (n : Fin 8192) (h : Fin 8) (d : Fin 128) : res_main_v5 V0 (ix4 0 n h d) = aV V0 (ix4 0 n (grp h) d) :=
  rep_apply _ n h d

/-! ### The walk at an index -/

/-- The scores of a query against the chunk of step `t`, and the values they weigh. -/
def sT (r : Fin 512) (h : Fin 8) (t : ℕ) (j : Fin 1024) : EReal :=
  score (aX V0) (aQ V0) (aK V0) r h (tile 8 1024 rfl (chunk t) j)
def vT (h : Fin 8) (e : Fin 128) (t : ℕ) (j : Fin 1024) : EReal := val (aV V0) h e (tile 8 1024 rfl (chunk t) j)

theorem sW_apply (t : ℕ) (r : Fin 512) (h : Fin 8) (j : Fin 1024) : sW V0 t (ix4 0 h r j) = sT V0 r h t j := by
  rw [sW, cS_apply, sT, score]
  refine Finset.sum_congr rfl fun d _ => ?_
  rw [v1_apply, part_apply, v3_apply]

theorem mW_apply (t : ℕ) (r : Fin 512) (h : Fin 8) : mW V0 t (ix4 0 h r 0) = runMax (sT V0 r h) t := by
  induction t with
  | zero => exact ofBits_bot
  | succ t ih =>
    rw [mW, cM_apply, ih]
    exact congrArg (fun s => max (runMax (sT V0 r h) t) (top s)) (funext fun j => sW_apply V0 t r h j)

theorem aW_apply (t : ℕ) (r : Fin 512) (h : Fin 8) :
    aW V0 t (ix4 0 h r 0) = Ideal.exp (runMax (sT V0 r h) t - runMax (sT V0 r h) (t + 1)) := by
  rw [aW, cA_apply, mW_apply, mW_apply]

theorem pW_apply (t : ℕ) (r : Fin 512) (h : Fin 8) (j : Fin 1024) :
    pW V0 t (ix4 0 h r j) = Ideal.exp (sT V0 r h t j - runMax (sT V0 r h) (t + 1)) := by
  rw [pW, cP_apply, sW_apply, mW_apply]

theorem lW_apply (t : ℕ) (r : Fin 512) (h : Fin 8) : lW V0 t (ix4 0 h r 0) = runSum (sT V0 r h) (fun _ _ => 1) t := by
  induction t with
  | zero => exact Ideal.ofBits_zero_f32
  | succ t ih =>
    rw [lW, cL_apply, ih, aW_apply, runSum, wsum]
    refine congrArg (_ + ·) (Finset.sum_congr rfl fun j _ => ?_)
    rw [pW_apply, mul_one]

theorem oW_apply (t : ℕ) (r : Fin 512) (h : Fin 8) (e : Fin 128) :
    oW V0 t (ix4 0 r h e) = runSum (sT V0 r h) (vT V0 h e) t := by
  induction t with
  | zero => exact Ideal.ofBits_zero_f32
  | succ t ih =>
    rw [oW, cO_apply, ih, aW_apply, runSum, wsum]
    refine congrArg (_ + ·) (Finset.sum_congr rfl fun j _ => ?_)
    rw [pW_apply, part_apply, v5_apply, vT, val, mul_comm]

/-! ### The result -/

/-- Eight steps summarise all the keys. -/
theorem runMax_all (r : Fin 512) (h : Fin 8) : runMax (sT V0 r h) 8 = top (score (aX V0) (aQ V0) (aK V0) r h) := by
  rw [runMax_eq, ← top_tiles 8 1024 rfl (score (aX V0) (aQ V0) (aK V0) r h)]
  exact congrArg top (funext fun i => congrArg top (funext fun j => by rw [sT, chunk_val]))

theorem runSum_all (r : Fin 512) (h : Fin 8) (v : Fin 8192 → EReal) :
    runSum (sT V0 r h) (fun t j => v (tile 8 1024 rfl (chunk t) j)) 8
      = wsum (score (aX V0) (aQ V0) (aK V0) r h) v (top (score (aX V0) (aQ V0) (aK V0) r h)) := by
  rw [runSum_eq, runMax_all, ← wsum_tiles 8 1024 rfl]
  refine Finset.sum_congr rfl fun i _ => ?_
  rw [chunk_val]
  exact congrArg (fun s => wsum s _ _) (funext fun j => by rw [sT, chunk_val])

/-- The result at an index. -/
theorem result_apply (r : Fin 512) (n : Fin 1024) :
    cF (oW V0 8) (lW V0 8) (aO V0) (ix3 0 r n) = out (aX V0) (aQ V0) (aK V0) (aV V0) (aO V0) r n := by
  rw [cF_apply, out]
  refine Finset.sum_congr rfl fun t _ => congrArg (· * aO V0 (ix2 t n)) ?_
  rw [oW_apply, lW_apply, attn, ← runSum_all, ← runSum_all]
  rfl

theorem result_eq : cF (oW V0 8) (lW V0 8) (aO V0)
    = fun i : S1x512x1024.Idx => out (aX V0) (aQ V0) (aK V0) (aV V0) (aO V0) (i 1) (i 2) := by
  funext i
  obtain ⟨z, r, n, rfl⟩ : ∃ (z : Fin 1) (r : Fin 512) (n : Fin 1024), i = ix3 z r n := ⟨i 0, i 1, i 2, eq_ix3 i⟩
  obtain rfl : z = 0 := Subsingleton.elim _ _
  exact result_apply V0 r n

/-! ### What the arguments are at the launch -/

section

variable (m : (ℓ : Loc nD τ sig) → Buf (Elt Ideal) ℓ) (c : Dev nD)

theorem aX_launch : aX (launchContents m c) = m ((c.tc : Thread nD τ).loc main_arg0) := rfl
theorem aQ_launch : aQ (launchContents m c) = m ((c.tc : Thread nD τ).loc main_arg1) := rfl
theorem aK_launch : aK (launchContents m c) = m ((c.tc : Thread nD τ).loc main_arg2) := rfl
theorem aV_launch : aV (launchContents m c) = m ((c.tc : Thread nD τ).loc main_arg3) := rfl
theorem aO_launch : aO (launchContents m c) = m ((c.tc : Thread nD τ).loc main_arg4) := rfl

end

/-- The reference leaves the result in its array, and its arguments as they were. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v197)
        = (fun i : S1x512x1024.Idx => out (aX (launchContents m c)) (aQ (launchContents m c)) (aK (launchContents m c))
            (aV (launchContents m c)) (aO (launchContents m c)) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (by
      rw [out_walk]
      exact (congrArg (fun l => cF (oW (launchContents m c) 8) l (aO (launchContents m c))) (sum_walk (launchContents m c) rfl)).trans
        (result_eq (launchContents m c))), (h c).2⟩) (Value.run m ρ)

end Cert.ReferenceIdeal.Walk

end
-- ==== Proof.lean ====
/-
# The certificate

The frames of the kernel, of its reading over the extended reals and of the reference, from their runs; and the equation of
the kernel's result with the reference's: both are the attention over all the keys, projected (`Cert.Attn.out`).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Read
public import proofs.«01_k».proof.Proof.KernelIdeal.Read
public import proofs.«01_k».proof.Proof.Value.Merge
public import proofs.«01_k».proof.Proof.Value.Reference
public import Idealize.ShloMosaic.Lib.Quiescent
public import Idealize.ShloMosaic.Adequacy
public import Idealize.ShloMosaic.Init

@[expose] public section

noncomputable section

namespace Cert.Proof

open Idealize.ShloMosaic Idealize.SL.Sem

/-- The kernel runs, leaves its arguments as they were and every semaphore at zero. -/
theorem frame_kernel : Cert.quiescent_Kernel := fun m ρ _ =>
  (θ_run Cert.Kernel.defs _ _).mono (fun _ h => ⟨fun c => (h.1 c).2, h.2⟩) (Cert.Kernel.Run.run_read (F := Bits) m ρ)

/-- So does its reading over the extended reals. -/
theorem frame_ideal : Cert.quiescent_KernelIdeal := fun m ρ _ =>
  (θ_run Cert.KernelIdeal.defs _ _).mono (fun _ h => ⟨fun c => (h.1 c).2, h.2⟩) (Cert.KernelIdeal.Run.run_read (F := Ideal) m ρ)

/-- So does the reference, which has no semaphores. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel on four devices and the reference on one end with the same result. -/
theorem algebraic : Cert.algebraic_KernelIdeal_ReferenceIdeal := fun m ρ m' ρ' _ hm =>
  let V0 := StableHlo.launchContents m' (0 : Dev Cert.ReferenceIdeal.nD)
  have H : Cert.KernelIdeal.Run.Args m (Cert.ReferenceIdeal.Walk.aX V0) (Cert.ReferenceIdeal.Walk.aQ V0)
      (Cert.ReferenceIdeal.Walk.aK V0) (Cert.ReferenceIdeal.Walk.aV V0) (Cert.ReferenceIdeal.Walk.aO V0) :=
    { x := fun c => (hm c).1.trans (Cert.ReferenceIdeal.Walk.aX_launch m' 0).symm
      q := fun c => (hm c).2.1.trans (Cert.ReferenceIdeal.Walk.aQ_launch m' 0).symm
      k := fun c => (hm c).2.2.1.trans (congrArg (fun K => Layout.block _ _ 1 4 c K) (Cert.ReferenceIdeal.Walk.aK_launch m' 0).symm)
      v := fun c => (hm c).2.2.2.1.trans (congrArg (fun K => Layout.block _ _ 1 4 c K) (Cert.ReferenceIdeal.Walk.aV_launch m' 0).symm)
      o := fun c => (hm c).2.2.2.2.trans (Cert.ReferenceIdeal.Walk.aO_launch m' 0).symm }
  ⟨_, (θ_run Cert.KernelIdeal.defs _ _).mono
      (fun _ h c => ⟨(h.1 c).1.trans (Cert.KernelIdeal.Run.outAt_eq H c), (h.1 c).2⟩)
      (Cert.KernelIdeal.Run.run_read (F := Ideal) m ρ),
    (θ_run Cert.ReferenceIdeal.defs _ _).mono (fun _ h => h 0) (Cert.ReferenceIdeal.Walk.run_out m' ρ')⟩

theorem claim : Cert.Claim := ⟨Cert.Kernel.Gen.facts, Cert.KernelIdeal.Gen.facts, Cert.ReferenceIdeal.Gen.facts,
  frame_kernel, frame_ideal, frame_reference, trivial, algebraic⟩

end Cert.Proof

end
